-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 128]⟩ ⟨2, ![1024, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S2x256x128 : Shape := ⟨3, ![2, 256, 128]⟩
abbrev S512x128 : Shape := ⟨2, ![512, 128]⟩
abbrev S4 : Shape := ⟨1, ![4]⟩
abbrev S_ : Shape := ⟨0, ![]⟩
abbrev S255x128 : Shape := ⟨2, ![255, 128]⟩
abbrev S1x128 : Shape := ⟨2, ![1, 128]⟩
abbrev S254x128 : Shape := ⟨2, ![254, 128]⟩
abbrev S2x128 : Shape := ⟨2, ![2, 128]⟩
abbrev S252x128 : Shape := ⟨2, ![252, 128]⟩
abbrev S4x128 : Shape := ⟨2, ![4, 128]⟩
abbrev S248x128 : Shape := ⟨2, ![248, 128]⟩
abbrev S8x128 : Shape := ⟨2, ![8, 128]⟩
abbrev S240x128 : Shape := ⟨2, ![240, 128]⟩
abbrev S16x128 : Shape := ⟨2, ![16, 128]⟩
abbrev S224x128 : Shape := ⟨2, ![224, 128]⟩
abbrev S32x128 : Shape := ⟨2, ![32, 128]⟩
abbrev S192x128 : Shape := ⟨2, ![192, 128]⟩
abbrev S64x128 : Shape := ⟨2, ![64, 128]⟩
abbrev S128x128 : Shape := ⟨2, ![128, 128]⟩
abbrev S1x256x128 : Shape := ⟨3, ![1, 256, 128]⟩
abbrev S1 : Shape := ⟨1, ![1]⟩
abbrev S384x128 : Shape := ⟨2, ![384, 128]⟩
abbrev S448x128 : Shape := ⟨2, ![448, 128]⟩
abbrev S480x128 : Shape := ⟨2, ![480, 128]⟩
abbrev S496x128 : Shape := ⟨2, ![496, 128]⟩
abbrev S504x128 : Shape := ⟨2, ![504, 128]⟩
abbrev S508x128 : Shape := ⟨2, ![508, 128]⟩
abbrev S510x128 : Shape := ⟨2, ![510, 128]⟩
abbrev S511x128 : Shape := ⟨2, ![511, 128]⟩

abbrev nBuf : Space → Nat
  | .hbm => 2
  | .vmem => 5
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S2x256x128, .f32⟩
  | .local _ .vmem, ⟨3, _⟩ => ⟨S512x128, .f32⟩
  | .local _ .vmem, ⟨4, _⟩ => ⟨S512x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_4 : BitVec 32 := 1#32
  let v8 : BitVec 32 := Scalar.muli v4 c1_i32_4
  let v9 : BitVec 32 := Scalar.addi c0_i32_5 v8
  v9.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v12 : BitVec 32 := Scalar.andi v2 c1_i32_8
  let v843 : Index := Scalar.indexCast v12
  let c0_183 : Index := 0#32
  let c0_184 : Index := 0#32
  ![v843.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v12 : BitVec 32 := Scalar.andi v2 c1_i32_8
  let c0_i32_189 : BitVec 32 := 0#32
  let c0_i32_190 : BitVec 32 := 0#32
  ![v12.toNat, 0, 0]
def k0_dev3 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_187 : BitVec 32 := 1#32
  let v847 : BitVec 32 := Scalar.muli v3 c1_i32_187
  let v848 : BitVec 32 := Scalar.addi c0_i32_188 v847
  v848.toNat
def k0_dev4 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_260 : BitVec 32 := 1#32
  let v1084 : BitVec 32 := Scalar.muli v4 c1_i32_260
  let v1085 : BitVec 32 := Scalar.addi c0_i32_261 v1084
  v1085.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_321 : BitVec 32 := 1#32
  let v1294 : BitVec 32 := Scalar.andi v2 c1_i32_321
  let c256_i32_322 : BitVec 32 := 256#32
  let v1295 : BitVec 32 := Scalar.muli v1294 c256_i32_322
  let v1296 : Index := Scalar.indexCast v1295
  let c0_323 : Index := 0#32
  ![v1296.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x128 : Shape := ⟨2, ![1024, 128]⟩

abbrev nBuf : Space → Nat
  | .hbm => 2
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Flat.lean ====
/-
# The kernel's body as one short program

The printed body is cut into twenty-eight parts, most of which only compute. Here it is one program of
memory operations over three computed values: the locally sorted block (`sortPay`), the block merged with
the first partner's (`mergePay`) and the block merged with the second partner's (`finalPay`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.SL.Sem

variable {F : FTy → Type} [FloatOps F]

/-- The device's number as the kernel computes it. -/
def me (c : Dev nD) : BitVec 32 := Scalar.remsi (Scalar.divsi (Dev.word c) 1#32) 4#32

/-- Whether the device's number is odd. -/
def odd (c : Dev nD) : BitVec 1 := Scalar.cmpi .eq (Scalar.remsi (me c) 2#32) 1#32

/-- Whether the device is in the upper pair. -/
def upper (c : Dev nD) : BitVec 1 := Scalar.cmpi .sge (me c) 2#32

/-- The device's own block `x` after its local sort. -/
def sortPay (c : Dev nD) (x : Vec F S256x128 .f32) : FVec F S1x256x128 .f32 :=
  let a := k0_pay6 (odd c) (k0_pay1 x) (k0_pay3 x) k0_pay4 (k0_pay5 c)
  let b := k0_pay7 (odd c) a
  let d := k0_pay9 (odd c) b (iota .tc S256x128 32 [0] iota_S256x128_d0_w32) k0_pay8
  let e := k0_pay11 (odd c) d (iota .tc S256x128 32 [0] iota_S256x128_d0_w32) k0_pay10 16#32
  let f := k0_pay15 (odd c) e k0_pay12 k0_pay13 k0_pay14
  let f' := k0_pay18 (odd c) e k0_pay12 k0_pay13 k0_pay14
  let g := k0_pay19 (odd c) f k0_pay16 k0_pay17 f'
  let g' := k0_pay22 (odd c) f k0_pay16 k0_pay17 f'
  let h := k0_pay23 (odd c) g k0_pay20 k0_pay21 g'
  let h' := k0_pay25 (odd c) g k0_pay20 k0_pay21 g'
  let i := k0_pay28 (odd c) h h' k0_pay26 (k0_pay27 (odd c))
  let j := k0_pay29 (odd c) i
  let k := k0_pay31 (odd c) j (iota .tc S256x128 32 [0] iota_S256x128_d0_w32) k0_pay30
  let l := k0_pay33 (odd c) k (iota .tc S256x128 32 [0] iota_S256x128_d0_w32) k0_pay32 128#32
  let o := k0_pay37 (odd c) l k0_pay34 k0_pay35 k0_pay36
  let o' := k0_pay40 (odd c) l k0_pay34 k0_pay35 k0_pay36
  let p := k0_pay41 (odd c) o k0_pay38 k0_pay39 o'
  let p' := k0_pay44 (odd c) o k0_pay38 k0_pay39 o'
  let q := k0_pay45 (odd c) p k0_pay42 k0_pay43 p'
  let q' := k0_pay47 (odd c) p k0_pay42 k0_pay43 p'
  let r := k0_pay50 (odd c) q q' k0_pay48 (k0_pay49 (odd c))
  let s := k0_pay51 (odd c) r
  k0_pay53 (odd c) s (iota .tc S256x128 32 [0] iota_S256x128_d0_w32) k0_pay52

/-- The two sorted blocks of the device's pair, merged. -/
def mergePay (c : Dev nD) (x : Vec F S2x256x128 .f32) : FVec F S512x128 .f32 :=
  let a := k0_pay54 (me c) x
  let b := k0_pay56 (upper c) a (iota .tc S512x128 32 [0] iota_S512x128_d0_w32) k0_pay55
  let d := k0_pay58 (upper c) b (iota .tc S512x128 32 [0] iota_S512x128_d0_w32) k0_pay57 2048#32
  let e := k0_pay62 (upper c) d k0_pay59 k0_pay60 k0_pay61
  let e' := k0_pay65 (upper c) d k0_pay59 k0_pay60 k0_pay61
  k0_pay66 (upper c) e k0_pay63 k0_pay64 e'

/-- The device's merged block `x` and the other pair's `y`, compared and merged. -/
def finalPay (c : Dev nD) (x y : Vec F S512x128 .f32) : FVec F S512x128 .f32 :=
  let a := k0_pay67 (me c) x y
  let b := k0_pay70 a k0_pay68 k0_pay69 0#32
  let b' := k0_pay73 a k0_pay68 k0_pay69 0#32
  let b'' := k0_pay74 a k0_pay68 k0_pay69 0#32
  let d := k0_pay75 b k0_pay71 k0_pay72 b' b''
  let e := k0_pay76 d (iota .tc S512x128 32 [0] iota_S512x128_d0_w32)
  k0_pay79 e (iota .tc S512x128 32 [0] iota_S512x128_d0_w32) k0_pay77 k0_pay78

/-- The staged input block. -/
abbrev xM : Memref sig .tc .vmem S256x128 .f32 := Memref.whole cc0_stg0_0
/-- The staged output block. -/
abbrev oM : Memref sig .tc .vmem S256x128 .f32 := Memref.whole cc0_stg1_0
/-- The two slots of the pair exchange. -/
abbrev pM : Memref sig .tc .vmem S2x256x128 .f32 := Memref.whole cc0_scratch0
/-- The device's merged block. -/
abbrev aM : Memref sig .tc .vmem S512x128 .f32 := Memref.whole cc0_scratch1
/-- The other pair's merged block. -/
abbrev bM : Memref sig .tc .vmem S512x128 .f32 := Memref.whole cc0_scratch2

/-- The slot of the pair buffer device `c` fills. -/
abbrev slotM (c : Dev nD) : Memref sig .tc .vmem S256x128 .f32 :=
  ((pM : Memref sig .tc .vmem S2x256x128 .f32).slice (Rect.unit (s := S2x256x128) (k0_off2 c) S1x256x128.size (k0_off2_inb c)) (fun _ => rfl)).squeeze
    S256x128 squeezes_S1x256x128_S256x128

/-- The four transfer semaphores. -/
abbrev qA : DmaSem sig := ((cc0_scratch3.slice (Rect.unit (s := S4) ![0] S1.size inb_S4_S1_0)).squeeze S_ squeezes_S1_S_).sem
abbrev qB : DmaSem sig := ((cc0_scratch3.slice (Rect.unit (s := S4) ![1] S1.size inb_S4_S1_1)).squeeze S_ squeezes_S1_S_).sem
abbrev qC : DmaSem sig := ((cc0_scratch3.slice (Rect.unit (s := S4) ![2] S1.size inb_S4_S1_2)).squeeze S_ squeezes_S1_S_).sem
abbrev qD : DmaSem sig := ((cc0_scratch3.slice (Rect.unit (s := S4) ![3] S1.size inb_S4_S1_3)).squeeze S_ squeezes_S1_S_).sem

/-- The runtime's barrier semaphore. -/
abbrev barS : Sem sig := (SemArray.scalar (sig.barrier 0 rfl) : Sems sig S_).sem

/-- A whole 256-row rectangle, a whole 512-row one, and the two that pick by device. -/
abbrev rS : Rect S256x128 := Rect.unit (s := S256x128) ![0, 0] S256x128.size inb_S256x128_S256x128_0_0
abbrev rL : Rect S512x128 := Rect.unit (s := S512x128) ![0, 0] S512x128.size inb_S512x128_S512x128_0_0
abbrev rP : Rect S2x256x128 := Rect.unit (s := S2x256x128) ![0, 0, 0] S2x256x128.size inb_S2x256x128_S2x256x128_0_0_0
abbrev rSlot (c : Dev nD) : Rect S2x256x128 := Rect.unit (s := S2x256x128) (k0_off1 c) S1x256x128.size (k0_off1_inb c)
abbrev rHalf (c : Dev nD) : Rect S512x128 := Rect.unit (s := S512x128) (k0_off3 c) S256x128.size (k0_off3_inb c)

/-- The body as one program. -/
def flat : Prog (TpuEff nD τ sig (Elt F) Λ₀ .tc) PUnit := do
  let c : Dev nD ← Prog.lift .deviceId
  semSignalWord (⟨k0_dev1 c, k0_dev1_lt c⟩ : Dev nD) barS 1#32
  semSignalWord (⟨k0_dev2 c, k0_dev2_lt c⟩ : Dev nD) barS 1#32
  semWaitWord barS 2#32
  let x : Vec F S256x128 .f32 ← Prog.lift (.load xM rS.toLoadRect (View.loadsAt_vmem h_S256x128))
  let _ : Vec F S1x256x128 .f32 ← Prog.lift (.load pM (rSlot c).toLoadRect (View.loadsAt_vmem h_S1x256x128))
  Prog.lift (.store pM (rSlot c) (sortPay c x) Finset.univ (View.stores_vmem_bits_univ h_S1x256x128 rfl) (.inl rfl))
  Prog.lift (.enqueueDma (slotM c) (.remote (Dev.tc (⟨k0_dev3 c, k0_dev3_lt c⟩ : Dev nD)) (slotM c) (.dma qA)) (.dma qB)
    ((View.wordExact_bits rfl).reshape _ _) ((View.wordExact_bits rfl).reshape _ _) ⟨⟨rfl, Or.inl rfl⟩, trivial⟩)
  Prog.lift (.waitDma2 qA (slotM c) (slotM c) ((View.wordExact_bits rfl).reshape _ _) ((View.wordExact_bits rfl).reshape _ _))
  Prog.lift (.waitDma2 qB (slotM c) (slotM c) ((View.wordExact_bits rfl).reshape _ _) ((View.wordExact_bits rfl).reshape _ _))
  let p : Vec F S2x256x128 .f32 ← Prog.lift (.load pM rP.toLoadRect (View.loadsAt_vmem h_S2x256x128))
  let _ : Vec F S512x128 .f32 ← Prog.lift (.load aM rL.toLoadRect (View.loadsAt_vmem h_S512x128))
  Prog.lift (.store aM rL (mergePay c p) Finset.univ (View.stores_vmem_bits_univ h_S512x128 rfl) (.inl rfl))
  Prog.lift (.enqueueDma aM (.remote (Dev.tc (⟨k0_dev4 c, k0_dev4_lt c⟩ : Dev nD)) bM (.dma qC)) (.dma qD)
    (Memref.isWhole_whole cc0_scratch1).wordExact (Memref.isWhole_whole cc0_scratch2).wordExact ⟨⟨rfl, Or.inl rfl⟩, trivial⟩)
  Prog.lift (.waitDma2 qC bM aM (Memref.isWhole_whole cc0_scratch2).wordExact (Memref.isWhole_whole cc0_scratch1).wordExact)
  Prog.lift (.waitDma2 qD aM bM (Memref.isWhole_whole cc0_scratch1).wordExact (Memref.isWhole_whole cc0_scratch2).wordExact)
  let a : Vec F S512x128 .f32 ← Prog.lift (.load aM rL.toLoadRect (View.loadsAt_vmem h_S512x128))
  let b : Vec F S512x128 .f32 ← Prog.lift (.load bM rL.toLoadRect (View.loadsAt_vmem h_S512x128))
  let _ : Vec F S512x128 .f32 ← Prog.lift (.load aM rL.toLoadRect (View.loadsAt_vmem h_S512x128))
  Prog.lift (.store aM rL (finalPay c a b) Finset.univ (View.stores_vmem_bits_univ h_S512x128 rfl) (.inl rfl))
  let o : Vec F S256x128 .f32 ← Prog.lift (.load aM (rHalf c).toLoadRect (View.loadsAt_vmem h_S256x128))
  let _ : Vec F S256x128 .f32 ← Prog.lift (.load oM rS.toLoadRect (View.loadsAt_vmem h_S256x128))
  Prog.lift (.store oM rS o Finset.univ (View.stores_vmem_bits_univ h_S256x128 rfl) (.inl rfl))
  pure ⟨⟩

set_option maxRecDepth 65536 in
/-- The printed body is the short program. -/
theorem body_flat :
    cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 = flat := by
  rw [cc0_body_eq_skeleton]; unfold cc0_body_skel
  rw [k0_part28_eq_skeleton]; unfold k0_part28_skel
  rw [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton]
  rfl

end Cert.Exchange

end
-- ==== Proof.Slots.lean ====
/-
# Partners, slots and the pair buffer's contents

Device `c` first exchanges with `across c`, the other device of its pair, then with `over c` of the other
pair. The pair buffer has two slots; a device fills the slot of its own parity and its partner fills the
other, so after the exchange both devices of a pair hold the same two blocks.
-/
module

public import proofs.«01_k».proof.Proof.Flat
public import Idealize.ShloMosaic.Lib.ValueIdxCore

@[expose] public section

noncomputable section

namespace Cert.Exchange

open Cert.KernelIdeal Cert.KernelIdeal.Gen
open Idealize.ShloMosaic Idealize.SL.Sem
open Idealize.ShloMosaic.TcCoe
open Idealize.ShloMosaic.ValueIdx

/-- The other device of `c`'s pair. -/
def across (c : Dev nD) : Dev nD := ⟨![1, 0, 3, 2] c, by revert c; decide⟩
/-- The device of the other pair that `c` trades merged blocks with. -/
def over (c : Dev nD) : Dev nD := ⟨![3, 2, 1, 0] c, by revert c; decide⟩

theorem across_across (c : Dev nD) : across (across c) = c := by revert c; decide
theorem over_over (c : Dev nD) : over (over c) = c := by revert c; decide
theorem across_ne_over (c : Dev nD) : across c ≠ over c := by revert c; decide

def acrossE : Dev nD ≃ Dev nD := ⟨across, across, across_across, across_across⟩
def overE : Dev nD ≃ Dev nD := ⟨over, over, over_over, over_over⟩

/-- The first signal and the first transfer name `across c`; the second ones name `over c`. -/
theorem dev1_eq (c : Dev nD) : (⟨k0_dev1 c, k0_dev1_lt c⟩ : Dev nD) = across c := by revert c; decide +kernel
theorem dev2_eq (c : Dev nD) : (⟨k0_dev2 c, k0_dev2_lt c⟩ : Dev nD) = over c := by revert c; decide +kernel
theorem dev3_eq (c : Dev nD) : (⟨k0_dev3 c, k0_dev3_lt c⟩ : Dev nD) = across c := by revert c; decide +kernel
theorem dev4_eq (c : Dev nD) : (⟨k0_dev4 c, k0_dev4_lt c⟩ : Dev nD) = over c := by revert c; decide +kernel

/-- Which slot a device fills. -/
def bit (c : Dev nD) : Nat := c.val % 2

theorem off1_eq (c : Dev nD) : k0_off1 c = ![bit c, 0, 0] := by
  funext a; revert a c; decide +kernel
theorem off2_eq (c : Dev nD) : k0_off2 c = ![bit c, 0, 0] := by
  funext a; revert a c; decide +kernel
theorem off3_eq (c : Dev nD) : k0_off3 c = ![bit c * 256, 0] := by
  funext a; revert a c; decide +kernel

theorem bit_across (c : Dev nD) : bit (across c) = 1 - bit c := by revert c; decide
theorem bit_lt (c : Dev nD) : bit c < 2 := Nat.mod_lt _ (by decide)

theorem p_size (a : Fin 3) : S1x256x128.size a = ![1, 256, 128] a := by fin_cases a <;> rfl

theorem slot_set (c : Dev nD) :
    (slotM c).view.set = (Rect.unit (s := S2x256x128) (k0_off2 c) S1x256x128.size (k0_off2_inb c)).set :=
  (View.set_reshape _ _).trans (View.set_slice_whole _ _)

/-- The elements of device `c`'s slot: those whose first coordinate is its bit. -/
theorem mem_slot (c : Dev nD) (i : S2x256x128.Idx) :
    i ∈ (slotM c).view.set ↔ (i (0 : Fin 3) : Nat) = bit c := by
  rw [slot_set, Rect.mem_set_unit, off2_eq]
  constructor
  · intro h
    have h0 : bit c ≤ (i (0 : Fin 3)).val ∧ (i (0 : Fin 3)).val < bit c + 1 := h 0
    omega
  · intro h a
    have h1 := (i (1 : Fin 3)).isLt
    have h2 := (i (2 : Fin 3)).isLt
    fin_cases a
    · show bit c ≤ (i (0 : Fin 3)).val ∧ (i (0 : Fin 3)).val < bit c + 1; omega
    · show 0 ≤ (i (1 : Fin 3)).val ∧ (i (1 : Fin 3)).val < 0 + 256
      exact ⟨Nat.zero_le _, by rw [Nat.zero_add]; exact h1⟩
    · show 0 ≤ (i (2 : Fin 3)).val ∧ (i (2 : Fin 3)).val < 0 + 128
      exact ⟨Nat.zero_le _, by rw [Nat.zero_add]; exact h2⟩

/-- The two slots do not overlap, -/
theorem slot_disjoint (c : Dev nD) : Disjoint (slotM c).view.set (slotM (across c)).view.set := by
  rw [Finset.disjoint_left]
  intro i h h'
  have e := (mem_slot c i).mp h
  have e' := (mem_slot (across c) i).mp h'
  have := bit_across c; have := bit_lt c; omega

/-- and together they are the pair buffer. -/
theorem slot_union (c : Dev nD) : (slotM c).view.set ∪ (slotM (across c)).view.set = Finset.univ := by
  ext i
  refine ⟨fun _ => Finset.mem_univ _, fun _ => Finset.mem_union.mpr ?_⟩
  have h0 : (i (0 : Fin 3)).val < 2 := (i (0 : Fin 3)).isLt
  have := bit_across c; have := bit_lt c
  by_cases h : (i (0 : Fin 3)).val = bit c
  · exact Or.inl ((mem_slot c i).mpr h)
  · exact Or.inr ((mem_slot (across c) i).mpr (by omega))

/-- The elements the store of a sorted block writes are those of the slot. -/
theorem store_slot (c : Dev nD) :
    (((pM : Memref sig .tc .vmem S2x256x128 .f32).access (rSlot c)) : View sig .tc _ _ _).set = (slotM c).view.set := by
  refine (View.set_slice_whole cc0_scratch0 (rSlot c)).trans ?_
  rw [slot_set]
  ext i
  rw [Rect.mem_set_unit, Rect.mem_set_unit, off1_eq, off2_eq]
  exact Iff.rfl

variable {F : FTy → Type} [FloatOps F]

/-- The pair buffer whose slots hold the one-row-of-blocks values `u 0` and `u 1`. -/
def pairOf (u : Nat → FVec F S1x256x128 .f32) : (cc0_scratch0 : Ref sig .tc).ty.Contents (Elt F) :=
  fun i => u (i (0 : Fin 3)).val (ix3 (n0 := 1) (n1 := 256) (n2 := 128) 0 (i (1 : Fin 3)) (i (2 : Fin 3)))

/-- Storing a block in a device's slot makes the slot's elements the block's. -/
theorem write_slot (c : Dev nD) (u : Nat → FVec F S1x256x128 .f32) (w : FVec F S1x256x128 .f32) (hw : w = u (bit c))
    (f : (cc0_scratch0 : Ref sig .tc).ty.Contents (Elt F)) (i : S2x256x128.Idx) (hi : i ∈ (slotM c).view.set) :
    (((pM : Memref sig .tc .vmem S2x256x128 .f32).access (rSlot c)) : View sig .tc _ _ _).write (Elt F) f w Finset.univ i = pairOf u i := by
  subst hw
  have hi' : i ∈ (((pM : Memref sig .tc .vmem S2x256x128 .f32).access (rSlot c)) : View sig .tc _ _ _).set := by
    rw [store_slot]; exact hi
  obtain ⟨x, -, rfl⟩ := Finset.mem_map.mp hi'
  rw [View.write_emb_of_mem _ _ (Finset.mem_univ x)]
  have hb := (mem_slot c _).mp hi
  unfold pairOf
  show u (bit c) x = _
  rw [show (((pM : Memref sig .tc .vmem S2x256x128 .f32).access (rSlot c)) : View sig .tc _ _ _).emb x (0 : Fin 3) = (⟨bit c, bit_lt c⟩ : Fin 2) from Fin.ext hb]
  refine congrArg (u (bit c)) (funext fun a => ?_)
  have e : ∀ a : Fin 3, ((((pM : Memref sig .tc .vmem S2x256x128 .f32).access (rSlot c)) : View sig .tc _ _ _).emb x a : Nat)
      = k0_off1 c a + 1 * (x a).val := fun a => rfl
  fin_cases a
  · exact Fin.ext (by have h0 : (x (0 : Fin 3)).val < 1 := (x (0 : Fin 3)).isLt
                      show (x (0 : Fin 3)).val = 0; omega)
  · refine Fin.ext ?_
    have := e 1
    rw [off1_eq] at this
    show (x (1 : Fin 3)).val = _
    rw [this]
    show _ = 0 + 1 * (x (1 : Fin 3)).val
    omega
  · refine Fin.ext ?_
    have := e 2
    rw [off1_eq] at this
    show (x (2 : Fin 3)).val = _
    rw [this]
    show _ = 0 + 1 * (x (2 : Fin 3)).val
    omega

/-- A transfer between the same slot of two devices carries its contents over: what lands agrees with the
    source on the slot. -/
theorem land_slot (c : Dev nD) (f g : (cc0_scratch0 : Ref sig .tc).ty.Contents (Elt F)) (i : S2x256x128.Idx)
    (hi : i ∈ (slotM c).view.set) :
    (slotM c).view.write (Elt F) f ((slotM c).view.read (Elt F) g) Finset.univ i = g i := by
  obtain ⟨x, -, rfl⟩ := Finset.mem_map.mp hi
  rw [View.write_emb_of_mem _ _ (Finset.mem_univ x)]
  rfl

end Cert.Exchange

end
-- ==== Proof.Protocol.lean ====
/-
# The exchange protocol

Each device has five semaphore cells, named by a number `k : Fin 5`: its barrier (0), the send and receive
sides of the exchange within the pair (1, 2) and those of the exchange between the pairs (3, 4). Every cell
has one round. The barrier's round has two duties of one unit: `false`, paid by the pair partner, who lends
the slot it will receive into, and `true`, paid by the partner in the other pair, who lends the buffer its
merged block will land in. Every transfer cell has the one duty `false`, worth the transfer's credit, whose
payload is the sender's own memory given back or the landed block.
-/
module

public import proofs.«01_k».proof.Proof.Slots

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's ghost state, beside the pipeline library's. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: the given contents, all counters zero. -/
def s₀ : MemSt nD τ sig (Elt F) := ⟨m, fun _ => 0, ρ⟩

/-! ## The cells -/

/-- The five semaphores of the protocol. -/
abbrev csem : Fin 5 → SemLoc sig := ![.reg barS, .dma qA, .dma qB, .dma qC, .dma qD]

/-- Cell `k` of device `c`. -/
abbrev cell (c : Dev nD) (k : Fin 5) : GSem nD τ sig := ((c : Thread nD τ), csem k)

/-- Which of the five a semaphore is. -/
def which (s : SemLoc sig) : Option (Fin 5) :=
  if s = csem 0 then some 0 else if s = csem 1 then some 1 else if s = csem 2 then some 2
  else if s = csem 3 then some 3 else if s = csem 4 then some 4 else none

theorem which_csem : ∀ k : Fin 5, which (csem k) = some k := by decide

theorem csem_inj {j k : Fin 5} (h : csem j = csem k) : j = k :=
  Option.some.inj ((which_csem j).symm.trans ((congrArg which h).trans (which_csem k)))

theorem cell_inj {c d : Dev nD} {j k : Fin 5} (h : cell c j = cell d k) : c = d ∧ j = k :=
  ⟨congrArg (fun g : GSem nD τ sig => g.1.1) h, csem_inj (congrArg Prod.snd h)⟩

/-- The credit of a transfer into a slot, and into the merged block's landing buffer. -/
abbrev NA : ℕ := (slotM 0).view.dmaCredit
abbrev NB : ℕ := (bM : Memref sig .tc .vmem S512x128 .f32).view.dmaCredit

theorem NA_pos : 0 < NA := View.dmaCredit_pos _ (by decide)
theorem NB_pos : 0 < NB := View.dmaCredit_pos _ (by decide)

/-- What one duty of cell `k` is worth. -/
def worth : Fin 5 → ℕ := ![1, NA, NA, NB, NB]

theorem worth_pos : ∀ k, 0 < worth k := fun k => by
  fin_cases k
  · exact Nat.one_pos
  · exact NA_pos
  · exact NA_pos
  · exact NB_pos
  · exact NB_pos

/-! ## The contents along the run -/

/-- The input block in device `c`'s staging buffer. -/
def xstg (c : Dev nD) : (cc0_stg0_0 : Ref sig .tc).ty.Contents (Elt F) :=
  (win0_0.blk (0 : Fin 1)).view.read (Elt F) ((s₀ m ρ).mem ((c : Thread nD τ).loc main_arg0))

/-- The device of `c`'s pair that fills slot `b`. -/
def filler (c : Dev nD) (b : Nat) : Dev nD := if bit c = b then c else across c

/-- Device `c`'s sorted block. -/
def sorted (c : Dev nD) : FVec F S1x256x128 .f32 := sortPay c (xstg m ρ c)

/-- The pair buffer of device `c` after the first exchange. -/
def pairC (c : Dev nD) : (cc0_scratch0 : Ref sig .tc).ty.Contents (Elt F) :=
  pairOf fun b => sorted m ρ (filler c b)

/-- Device `c`'s merged block. -/
def merged (c : Dev nD) : (cc0_scratch1 : Ref sig .tc).ty.Contents (Elt F) := mergePay c (pairC m ρ c)

/-- Device `c`'s block after the second exchange and merge. -/
def final (c : Dev nD) : (cc0_scratch1 : Ref sig .tc).ty.Contents (Elt F) :=
  finalPay c (merged m ρ c) (merged m ρ (over c))

/-- Device `c`'s result. -/
def outAt (c : Dev nD) : (cc0_stg1_0 : Ref sig .tc).ty.Contents (Elt F) :=
  (aM : Memref sig .tc .vmem S512x128 .f32).view.readAt (Elt F) (rHalf c).toLoadRect (final m ρ c)

theorem filler_bit (c : Dev nD) : filler c (bit c) = c := if_pos rfl

theorem filler_across (c : Dev nD) (b : Nat) (hb : b < 2) : filler (across c) b = filler c b := by
  have := bit_across c; have := bit_lt c
  unfold filler
  rw [across_across]
  by_cases h : bit c = b
  · rw [if_pos h, if_neg (by omega)]
  · rw [if_neg h, if_pos (by omega)]

/-- Both devices of a pair end with the same pair buffer. -/
theorem pairC_across (c : Dev nD) : pairC m ρ (across c) = pairC m ρ c := by
  funext i
  unfold pairC pairOf
  beta_reduce
  rw [filler_across c _ (show (i (0 : Fin 3)).val < 2 from (i (0 : Fin 3)).isLt)]

/-! ## Ownership of the buffers -/

/-- Device `c`'s slot numbered by device `d`'s bit, at contents `f`. -/
def slotAt (c d : Dev nD) (f : (cc0_scratch0 : Ref sig .tc).ty.Contents (Elt F)) : sProp 𝕄 :=
  (slotM d).view.loc (c : Thread nD τ) ↦[(slotM d).view.set]{fullShare} f

/-- Device `c`'s pair buffer, merged block and landing buffer. -/
def pairAt (c : Dev nD) (f : (cc0_scratch0 : Ref sig .tc).ty.Contents (Elt F)) : sProp 𝕄 :=
  ((c : Thread nD τ).loc cc0_scratch0) ↦{fullShare} f
def ownAt (c : Dev nD) (f : (cc0_scratch1 : Ref sig .tc).ty.Contents (Elt F)) : sProp 𝕄 :=
  ((c : Thread nD τ).loc cc0_scratch1) ↦{fullShare} f
def landAt (c : Dev nD) (f : (cc0_scratch2 : Ref sig .tc).ty.Contents (Elt F)) : sProp 𝕄 :=
  ((c : Thread nD τ).loc cc0_scratch2) ↦{fullShare} f

omit [FloatOps F] in
instance slotAt_storable (c d : Dev nD) (f) : BI.Storable (upEmb : UEmb _ 𝕄) (slotAt (F := F) c d f) := by
  unfold slotAt; infer_instance
omit [FloatOps F] in
instance ownAt_storable (c : Dev nD) (f) : BI.Storable (upEmb : UEmb _ 𝕄) (ownAt (F := F) c f) := by
  unfold ownAt; infer_instance
omit [FloatOps F] in
instance landAt_storable (c : Dev nD) (f) : BI.Storable (upEmb : UEmb _ 𝕄) (landAt (F := F) c f) := by
  unfold landAt; infer_instance

omit [FloatOps F] in
/-- The pair buffer is its two slots. -/
theorem pair_split (c : Dev nD) (f : (cc0_scratch0 : Ref sig .tc).ty.Contents (Elt F)) :
    (pairAt c f : sProp 𝕄) ⊣⊢ iprop(slotAt c c f ∗ slotAt c (across c) f) := by
  have h := pointsTo_union (Ix := Unit) (Name := ℕ) (U := UU) (Lvl := ℕ) (ℓ := (c : Thread nD τ).loc cc0_scratch0) (q := fullShare) (f := f)
    (I := (slotM c).view.set) (J := (slotM (across c)).view.set) (slot_disjoint c)
  rw [slot_union] at h
  exact h

/-! ## The schedule -/

/-- What a duty of cell `k` of device `c` hands over. -/
def hand (c : Dev nD) (k : Fin 5) (d : Bool) : sProp 𝕄 :=
  match k with
  | 0 => if d then iprop(∃ f, landAt (over c) f) else iprop(∃ f, slotAt (across c) c f)
  | 1 => slotAt c c (pairC m ρ c)
  | 2 => slotAt c (across c) (pairC m ρ c)
  | 3 => ownAt c (merged m ρ c)
  | 4 => landAt c (merged m ρ (over c))

instance hand_storable (c : Dev nD) (k : Fin 5) (d : Bool) : BI.Storable (upEmb : UEmb _ 𝕄) (hand (F := F) m ρ c k d) := by
  unfold hand; fin_cases k <;> dsimp only <;> (try split) <;> infer_instance

/-- The duties of cell `k`: both names at the barrier, `false` elsewhere. -/
def dutySet : Fin 5 → Finset Bool := ![Finset.univ, {false}, {false}, {false}, {false}]

/-- The schedule: one round at each of the five cells of a device. -/
def sched : Rounds.Schedule (GSem nD τ sig) Bool 𝕄 where
  duties g r := if g.1.2 = .tc ∧ r = 0 then (match which g.2 with | some k => dutySet k | none => ∅) else ∅
  unitless _ := False
  amount g _ _ := match which g.2 with | some k => worth k | none => 1
  payload g _ d := match which g.2 with | some k => hand m ρ g.1.1 k d | none => iprop(emp)
  amount_pos g _ _ _ := by
    cases which g.2 with
    | none => exact Nat.one_pos
    | some k => exact worth_pos k

instance sched_payload_storable (g : GSem nD τ sig) (r : ℕ) (d : Bool) :
    BI.Storable (upEmb : UEmb _ 𝕄) ((sched (F := F) m ρ).payload g r d) := by
  show BI.Storable upEmb (match which g.2 with | some k => hand m ρ g.1.1 k d | none => iprop(emp))
  cases which g.2 with
  | none => dsimp only; infer_instance
  | some k => dsimp only; infer_instance

theorem duties_at (c : Dev nD) (k : Fin 5) : (sched (F := F) m ρ).duties (cell c k) 0 = dutySet k := by
  dsimp only [sched]
  rw [if_pos ⟨rfl, rfl⟩]
  show (match which (csem k) with | some k => dutySet k | none => ∅) = dutySet k
  rw [which_csem]

theorem duties_later (g : GSem nD τ sig) : ∀ r, 1 ≤ r → (sched (F := F) m ρ).duties g r = ∅ := fun r hr => by
  dsimp only [sched]
  rw [if_neg (fun h => by omega)]

theorem amount_at (c : Dev nD) (k : Fin 5) (d : Bool) : (sched (F := F) m ρ).amount (cell c k) 0 d = worth k := by
  show (match which (csem k) with | some k => worth k | none => 1) = worth k
  rw [which_csem]

theorem payload_at (c : Dev nD) (k : Fin 5) (d : Bool) : (sched (F := F) m ρ).payload (cell c k) 0 d = hand m ρ c k d := by
  show (match which (csem k) with | some k => hand m ρ c k d | none => iprop(emp)) = hand m ρ c k d
  rw [which_csem]

/-- What a round of cell `k` takes in: two units at the barrier, the transfer's credit elsewhere. -/
def takes : Fin 5 → ℕ := ![2, NA, NA, NB, NB]

theorem expect_at (c : Dev nD) (k : Fin 5) : (sched (F := F) m ρ).expect (cell c k) 0 = takes k := by
  unfold Schedule.expect Schedule.amountOf
  rw [duties_at, Finset.sum_congr rfl fun d _ => amount_at m ρ c k d, Finset.sum_const]
  fin_cases k <;> simp only [dutySet, worth, takes] <;> first | rfl | (show 1 * _ = _; exact Nat.one_mul _)

/-- What a barrier wait brings: the partners' slot and landing buffer. -/
theorem rest_bar (c : Dev nD) :
    bigSep ((sched (F := F) m ρ).duties (cell c 0) 0 \ ∅) (fun d => (sched (F := F) m ρ).payload (cell c 0) 0 d)
      = iprop((∃ f, slotAt (across c) c f) ∗ (∃ f, landAt (over c) f)) := by
  rw [Finset.sdiff_empty, duties_at, show dutySet 0 = Finset.univ from rfl,
    bigSep_univ_eq_bigSepL [false, true] (by decide) (by decide), bigSepL_cons_cons, bigSepL_singleton, payload_at, payload_at]
  rfl

/-- What a transfer wait brings. -/
theorem rest_at (c : Dev nD) (k : Fin 5) (hk : dutySet k = {false}) :
    bigSep ((sched (F := F) m ρ).duties (cell c k) 0 \ ∅) (fun d => (sched (F := F) m ρ).payload (cell c k) 0 d) = hand m ρ c k false := by
  rw [Finset.sdiff_empty, duties_at, hk, bigSep_singleton, payload_at]

/-! ## What is owed, and in which order cells may be waited on -/

/-- Device `c` owes the credit of its two transfers and a unit to each partner's barrier, in the reverse of
    the order it pays them. -/
def owed₂ (c : Dev nD) : CellTallies nD τ sig Unit := tallyAt (cell (over c) 4) () NB + tallyAt (cell (across c) 2) () NA
def owed₁ (c : Dev nD) : CellTallies nD τ sig Unit := owed₂ c + tallyAt (cell (over c) 0) () 1
def owed₀ (c : Dev nD) : CellTallies nD τ sig Unit := owed₁ c + tallyAt (cell (across c) 0) () 1

def L (g : GSem nD τ sig) : Finset Unit := if g.1.2 = .tc then {()} else ∅

/-- Barriers come first, then the exchange within the pair, then the exchange between pairs; all else is below. -/
def rank (s : SemLoc sig) : ℕ := match which s with | some k => ![1, 0, 2, 0, 3] k | none => 0
def lv (g : GSem nD τ sig) (_ : Unit) : ℕ := rank g.2

theorem rank_csem (k : Fin 5) : rank (csem k) = ![1, 0, 2, 0, 3] k := by unfold rank; rw [which_csem]

theorem L_of_ne (g : GSem nD τ sig) (h : g.1.2 ≠ .tc) : L g = ∅ := if_neg h
theorem L_tc (c : Dev nD) (sm : SemLoc sig) : L ((c : Thread nD τ), sm) = {()} := if_pos rfl

/-- A debt at one of the cells. -/
theorem tally_pos {c : Dev nD} {k : Fin 5} {n : ℕ} {g : GSem nD τ sig} {u : Unit} (h : 0 < (tallyAt (cell c k) () n : CellTallies nD τ sig Unit) g u) :
    g = cell c k := by
  rw [tallyAt_apply] at h
  by_contra hn
  rw [if_neg (fun h' => hn h'.1)] at h
  exact Nat.lt_irrefl 0 h

theorem owed₂_pos {c : Dev nD} {g : GSem nD τ sig} {u : Unit} (h : 0 < owed₂ c g u) : ∃ d, g = cell d 4 ∨ g = cell d 2 := by
  unfold owed₂ at h
  rw [Pi.add_apply, Finsupp.add_apply] at h
  rcases Nat.add_pos_iff_pos_or_pos.mp h with h | h
  · exact ⟨_, Or.inl (tally_pos h)⟩
  · exact ⟨_, Or.inr (tally_pos h)⟩

theorem owed₀_pos {c : Dev nD} {g : GSem nD τ sig} {u : Unit} (h : 0 < owed₀ c g u) : ∃ d, g = cell d 4 ∨ g = cell d 2 ∨ g = cell d 0 := by
  unfold owed₀ owed₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨d, h | h⟩ := owed₂_pos h
      · exact ⟨d, Or.inl h⟩
      · exact ⟨d, Or.inr (Or.inl h)⟩
    · exact ⟨_, Or.inr (Or.inr (tally_pos h))⟩
  · exact ⟨_, Or.inr (Or.inr (tally_pos h))⟩

omit [FloatOps F] in
/-- A semaphore may be waited on when everything owed ranks above it. -/
theorem may_wait (c : Dev nD) (sm : SemLoc sig) (O : CellTallies nD τ sig Unit)
    (hO : ∀ (g : GSem nD τ sig) (u : Unit), 0 < O g u → ∃ (d : Dev nD) (k : Fin 5), g = cell d k ∧ rank sm < ![1, 0, 2, 0, 3] k) :
    (levAts L lv : sProp 𝕄) ⊢ MayWait (c : Thread nD τ) sm () O :=
  MayOwe.of_cut (L := L) (lev := lv) (rank sm) (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact le_refl _)
    (fun g u hg => by
      obtain ⟨d, k, rfl, hk⟩ := hO g u hg
      show rank sm < rank (csem k)
      rw [rank_csem]; exact hk)

omit [FloatOps F] in
theorem wait_stage (c : Dev nD) (sm : SemLoc sig) (hq : rank sm = 0) (O : CellTallies nD τ sig Unit) (hO : O = owed₀ c ∨ O = 0) :
    (levAts L lv : sProp 𝕄) ⊢ MayWait (c : Thread nD τ) sm () O := by
  rcases hO with rfl | rfl
  · refine may_wait c sm _ fun g u h => ?_
    obtain ⟨d, rfl | rfl | rfl⟩ := owed₀_pos h
    · exact ⟨d, 4, rfl, by rw [hq]; decide⟩
    · exact ⟨d, 2, rfl, by rw [hq]; decide⟩
    · exact ⟨d, 0, rfl, by rw [hq]; decide⟩
  · rw [MayWait_zero]; iintro -; iempintro

omit [FloatOps F] in
theorem wait_bar (c : Dev nD) : (levAts L lv : sProp 𝕄) ⊢ MayWait (c : Thread nD τ) (csem 0) () (owed₂ c) :=
  may_wait c _ _ fun g u h => by
    obtain ⟨d, rfl | rfl⟩ := owed₂_pos h
    · exact ⟨d, 4, rfl, by rw [rank_csem]; decide⟩
    · exact ⟨d, 2, rfl, by rw [rank_csem]; decide⟩

omit [FloatOps F] in
/-- The pair's transfer cells while the second transfer is still owed. -/
theorem wait_pair (c : Dev nD) (k : Fin 5) (hk : (![1, 0, 2, 0, 3] : Fin 5 → ℕ) k < 3) :
    (levAts L lv : sProp 𝕄) ⊢ MayWait (c : Thread nD τ) (csem k) () (tallyAt (cell (over c) 4) () NB) :=
  may_wait c _ _ fun g u h => ⟨over c, 4, tally_pos h, by rw [rank_csem]; exact hk⟩

/-! ## The shared records and what each device holds -/

/-- Every cell's invariant, and that every cell has reached its round. -/
def records (K : Dev nD × Fin 5 → ℕ) : sProp 𝕄 :=
  iprop((bigSep Finset.univ fun ck : Dev nD × Fin 5 => cellInv EX (sched m ρ) (K ck) (cell ck.1 ck.2))
    ∗ bigSep Finset.univ fun ck : Dev nD × Fin 5 => reached EX (cell ck.1 ck.2) 0)

instance records_persistent (K : Dev nD × Fin 5 → ℕ) : BI.Persistent (records m ρ K) := by unfold records; infer_instance

theorem inv_of (K : Dev nD × Fin 5 → ℕ) (c : Dev nD) (k : Fin 5) :
    records m ρ K ⊢ cellInv EX (sched m ρ) (K (c, k)) (cell c k) := by
  unfold records
  iintro ⟨H, -⟩
  iapply (show (bigSep Finset.univ fun ck : Dev nD × Fin 5 => (cellInv EX (sched m ρ) (K ck) (cell ck.1 ck.2) : sProp 𝕄))
    ⊢ cellInv EX (sched m ρ) (K (c, k)) (cell c k) from bigSep_elim (Finset.mem_univ (c, k)))
  iexact H

theorem reached_of (K : Dev nD × Fin 5 → ℕ) (c : Dev nD) (k : Fin 5) :
    records m ρ K ⊢ reached EX (cell c k) 0 := by
  unfold records
  iintro ⟨-, H⟩
  iapply (show (bigSep Finset.univ fun ck : Dev nD × Fin 5 => (reached EX (cell ck.1 ck.2) 0 : sProp 𝕄))
    ⊢ reached EX (cell c k) 0 from bigSep_elim (Finset.mem_univ (c, k)))
  iexact H

/-- The tokens of the duties device `c` pays. -/
def payToks (c : Dev nD) : sProp 𝕄 :=
  iprop(dutyTok EX (cell (across c) 0) 0 false ∗ dutyTok EX (cell (over c) 0) 0 true
    ∗ dutyTok EX (cell c 1) 0 false ∗ dutyTok EX (cell (across c) 2) 0 false
    ∗ dutyTok EX (cell c 3) 0 false ∗ dutyTok EX (cell (over c) 4) 0 false)

/-- Device `c`'s positions at its five cells. -/
def places (c : Dev nD) : sProp 𝕄 := bigSep Finset.univ fun k : Fin 5 => atPos EX (cell c k) 0 ∅ 0

/-- The credit device `c` waits on that others pay. -/
def credits (c : Dev nD) : sProp 𝕄 :=
  iprop(cred (tallyAt (cell c 0) () 2) ∗ cred (tallyAt (cell c 2) () NA) ∗ cred (tallyAt (cell c 4) () NB))

/-- What device `c`'s body starts from. -/
def start (c : Dev nD) : sProp 𝕄 :=
  iprop((∃ K, records m ρ K ∗ places c ∗ payToks c) ∗ credits c ∗ levAts L lv)

/-- The three scratch buffers at any contents. -/
def scratch (c : Dev nD) : sProp 𝕄 := iprop((∃ f, pairAt c f) ∗ (∃ f, ownAt c f) ∗ (∃ f, landAt c f))

/-- The five counters at zero. -/
def zeros (c : Dev nD) : sProp 𝕄 := bigSep Finset.univ fun k : Fin 5 => semVal (cell c k) 0

/-- The pipeline library's data: the arrays, the windows after the one point, and what is held before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => iprop(start m ρ c ∗ scratch c)
    | ⟨_ + 1, _⟩ => iprop(scratch c ∗ zeros c)
  q _ := fullShare
  owed t := match t with
    | ⟨0, _⟩ => owed₀ c
    | ⟨_ + 1, _⟩ => 0

abbrev 𝒱₀ : Variants := Variants.none

end Cert.Exchange

end
-- ==== Proof.Body.lean ====
/-
# The body on one device

The short program, run rule by rule from the protocol's start to its end: the two signals lend the slot and the
landing buffer, the barrier wait brings the partners', each transfer moves the block computed so far, and the
last store leaves the device's half of the merged block in the output's staging buffer.
-/
module

public import proofs.«01_k».proof.Proof.Protocol
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The one grid point. -/
def t₀ : Fin cfg0.N := t0_0

omit [FloatOps F] in
theorem fetch_in (t : Fin cfg0.N) : (cfg0.win (0 : Fin 2)).fetch t = true := fetch0_0 t

omit [FloatOps F] in
theorem two_zero : (![0, 0] : Fin 2 → Nat) = fun _ => 0 := funext fun a => by fin_cases a <;> rfl
omit [FloatOps F] in
theorem three_zero : (![0, 0, 0] : Fin 3 → Nat) = fun _ => 0 := funext fun a => by fin_cases a <;> rfl

omit [FloatOps F] in
theorem read_x (f : (cc0_stg0_0 : Ref sig .tc).ty.Contents (Elt F)) :
    (xM : Memref sig .tc .vmem S256x128 .f32).view.readAt (Elt F) rS.toLoadRect f = f :=
  Memref.readAt_unit_zero (Elt F) cc0_stg0_0 two_zero _ f
omit [FloatOps F] in
theorem read_pair (f : (cc0_scratch0 : Ref sig .tc).ty.Contents (Elt F)) :
    (pM : Memref sig .tc .vmem S2x256x128 .f32).view.readAt (Elt F) rP.toLoadRect f = f :=
  Memref.readAt_unit_zero (Elt F) cc0_scratch0 three_zero _ f
omit [FloatOps F] in
theorem read_own (f : (cc0_scratch1 : Ref sig .tc).ty.Contents (Elt F)) :
    (aM : Memref sig .tc .vmem S512x128 .f32).view.readAt (Elt F) rL.toLoadRect f = f :=
  Memref.readAt_unit_zero (Elt F) cc0_scratch1 two_zero _ f
omit [FloatOps F] in
theorem read_land (f : (cc0_scratch2 : Ref sig .tc).ty.Contents (Elt F)) :
    (bM : Memref sig .tc .vmem S512x128 .f32).view.readAt (Elt F) rL.toLoadRect f = f :=
  Memref.readAt_unit_zero (Elt F) cc0_scratch2 two_zero _ f
omit [FloatOps F] in
theorem write_own (f w : (cc0_scratch1 : Ref sig .tc).ty.Contents (Elt F)) :
    ((aM : Memref sig .tc .vmem S512x128 .f32).access rL : View sig .tc _ _ _).write (Elt F) f w Finset.univ = w :=
  Memref.write_access_unit_zero_univ (Elt F) cc0_scratch1 two_zero _ f w
omit [FloatOps F] in
theorem write_out (f w : (cc0_stg1_0 : Ref sig .tc).ty.Contents (Elt F)) :
    ((oM : Memref sig .tc .vmem S256x128 .f32).access rS : View sig .tc _ _ _).write (Elt F) f w Finset.univ = w :=
  Memref.write_access_unit_zero_univ (Elt F) cc0_stg1_0 two_zero _ f w

section Steps
variable (K : Dev nD × Fin 5 → ℕ)

/-- Starting the transfer of the own slot to the pair partner. -/
theorem send_pair (c n : Dev nD) (hn : n = across c)
    {hsc : (slotM c : Memref sig (Dev.tc n : Thread nD τ).2.kind .vmem S256x128 .f32).view.ref.isScScratch = false}
    {hsrc : (slotM c).view.WordExact} {hdst : (slotM c : Memref sig (Dev.tc n : Thread nD τ).2.kind .vmem S256x128 .f32).view.WordExact}
    {hsem : DmaTarget.Typed .vmem (.dma qB) (.remote (Dev.tc n : Thread nD τ) (slotM c) (.dma qA) hsc)}
    {α : Type} {Q : α → sProp 𝕄} {k : PUnit → Prog (TpuEff nD τ sig (Elt F) Λ₀ .tc) α}
    (fn : (cc0_scratch0 : Ref sig .tc).ty.Contents (Elt F)) (W : Waits sig Unit) :
    iprop(records m ρ K ∗ slotAt c c (pairC m ρ c) ∗ slotAt (across c) c fn ∗ owes (c : Thread nD τ) (owed₂ c) W
        ∗ dutyTok EX (cell c 1) 0 false ∗ dutyTok EX (cell (across c) 2) 0 false)
      ⊢ iprop(((cred (tallyAt (cell c 1) () NA) ∗ owes (c : Thread nD τ) (tallyAt (cell (over c) 4) () NB) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma qA) hsc) (.dma qB) hsrc hdst hsem) k) Q) := by
  subst hn
  refine BIBase.Entails.trans ?_ (Rounds.wp_send_pointsTo 𝒱₀ EX (sched m ρ) (c : Thread nD τ) none (κ₁ := K (c, 1)) (κ₂ := K (across c, 2))
    (c' := (across c : Thread nD τ)) (src := slotM c) (dst := slotM c) (hsc := hsc) (sS := .dma qA) (sem := .dma qB) (hsrc := hsrc) (hdst := hdst) (hsem := hsem)
    (r₁ := 0) (r₂ := 0) (d₁ := false) (d₂ := false) (q := fullShare) (fs := pairC m ρ c) (fd := fn)
    (by rw [show (((c : Thread nD τ), SemLoc.dma qA) : GSem nD τ sig) = cell c 1 from rfl, duties_at]; exact Finset.mem_singleton_self _)
    (by rw [show (((across c : Thread nD τ), SemLoc.dma qB) : GSem nD τ sig) = cell (across c) 2 from rfl, duties_at]; exact Finset.mem_singleton_self _)
    () () NA rfl (amount_at m ρ c 1 false) (amount_at m ρ (across c) 2 false) (O₀ := owed₂ c) (tallyAt (cell (over c) 4) () NB) rfl (W := W)
    (by rw [show (((c : Thread nD τ), SemLoc.dma qA) : GSem nD τ sig) = cell c 1 from rfl, payload_at]; exact BI.Entails.refl _)
    (by
      rw [show (((across c : Thread nD τ), SemLoc.dma qB) : GSem nD τ sig) = cell (across c) 2 from rfl, payload_at]
      show _ ⊢ slotAt (across c) (across (across c)) (pairC m ρ (across c))
      rw [across_across, pairC_across]
      exact Entails.of_eq (pointsTo_congr fun i hi => land_slot c fn (pairC m ρ c) i hi))
    (Es := Set.univ))
  unfold slotAt
  iintro ⟨#HR, Hs, Hd, HO, Ht1, Ht2⟩
  isplitr; · iapply (inv_of m ρ K c 1); iexact HR
  isplitr; · iapply (inv_of m ρ K (across c) 2); iexact HR
  isplitl [Hs]; · iexact Hs
  isplitl [Hd]; · iexact Hd
  isplitl [HO]; · iexact HO
  isplitl [Ht1]; · iexact Ht1
  isplitr; · iapply (reached_of m ρ K c 1); iexact HR
  isplitl [Ht2]; · iexact Ht2
  iapply (reached_of m ρ K (across c) 2); iexact HR

omit [FloatOps F] in
/-- A whole block transferred into a whole buffer is what lands. -/
theorem land_whole (f : (cc0_scratch2 : Ref sig .tc).ty.Contents (Elt F)) (g : (cc0_scratch1 : Ref sig .tc).ty.Contents (Elt F)) :
    (bM : Memref sig .tc .vmem S512x128 .f32).view.write (Elt F) f ((aM : Memref sig .tc .vmem S512x128 .f32).view.read (Elt F) g) Finset.univ = g :=
  (congrArg (fun w => (View.whole cc0_scratch2).write (Elt F) f w Finset.univ) (View.read_whole cc0_scratch1 g)).trans (View.write_whole_univ _ _ _)

/-- Starting the transfer of the merged block to the partner in the other pair. -/
theorem send_merged (c n : Dev nD) (hn : n = over c)
    {hsc : (bM : Memref sig (Dev.tc n : Thread nD τ).2.kind .vmem S512x128 .f32).view.ref.isScScratch = false}
    {hsrc : (aM : Memref sig .tc .vmem S512x128 .f32).view.WordExact} {hdst : (bM : Memref sig .tc .vmem S512x128 .f32).view.WordExact}
    {hsem : DmaTarget.Typed .vmem (.dma qD) (.remote (Dev.tc n : Thread nD τ) (bM : Memref sig .tc .vmem S512x128 .f32) (.dma qC) hsc)}
    {α : Type} {Q : α → sProp 𝕄} {k : PUnit → Prog (TpuEff nD τ sig (Elt F) Λ₀ .tc) α}
    (fn : (cc0_scratch2 : Ref sig .tc).ty.Contents (Elt F)) (W : Waits sig Unit) :
    iprop(records m ρ K ∗ ownAt c (merged m ρ c) ∗ landAt (over c) fn ∗ owes (c : Thread nD τ) (tallyAt (cell (over c) 4) () NB) W
        ∗ dutyTok EX (cell c 3) 0 false ∗ dutyTok EX (cell (over c) 4) 0 false)
      ⊢ iprop(((cred (tallyAt (cell c 3) () NB) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.remote (Dev.tc n : Thread nD τ) bM (.dma qC) hsc) (.dma qD) hsrc hdst hsem) k) Q) := by
  subst hn
  refine BIBase.Entails.trans ?_ (Rounds.wp_send_pointsTo 𝒱₀ EX (sched m ρ) (c : Thread nD τ) none (κ₁ := K (c, 3)) (κ₂ := K (over c, 4))
    (c' := (over c : Thread nD τ)) (src := aM) (dst := bM) (hsc := hsc) (sS := .dma qC) (sem := .dma qD) (hsrc := hsrc) (hdst := hdst) (hsem := hsem)
    (r₁ := 0) (r₂ := 0) (d₁ := false) (d₂ := false) (q := fullShare) (fs := merged m ρ c) (fd := fn)
    (by rw [show (((c : Thread nD τ), SemLoc.dma qC) : GSem nD τ sig) = cell c 3 from rfl, duties_at]; exact Finset.mem_singleton_self _)
    (by rw [show (((over c : Thread nD τ), SemLoc.dma qD) : GSem nD τ sig) = cell (over c) 4 from rfl, duties_at]; exact Finset.mem_singleton_self _)
    () () NB rfl (amount_at m ρ c 3 false) (amount_at m ρ (over c) 4 false) (O₀ := tallyAt (cell (over c) 4) () NB) 0 (zero_add _).symm (W := W)
    (by
      rw [show (((c : Thread nD τ), SemLoc.dma qC) : GSem nD τ sig) = cell c 3 from rfl, payload_at]
      show _ ⊢ ownAt c (merged m ρ c)
      unfold ownAt
      rw [View.set_whole])
    (by
      rw [show (((over c : Thread nD τ), SemLoc.dma qD) : GSem nD τ sig) = cell (over c) 4 from rfl, payload_at]
      show _ ⊢ landAt (over c) (merged m ρ (over (over c)))
      unfold landAt
      rw [over_over, View.set_whole, land_whole])
    (Es := Set.univ))
  unfold ownAt landAt
  rw [View.set_whole, View.set_whole]
  iintro ⟨#HR, Hs, Hd, HO, Ht1, Ht2⟩
  isplitr; · iapply (inv_of m ρ K c 3); iexact HR
  isplitr; · iapply (inv_of m ρ K (over c) 4); iexact HR
  isplitl [Hs]; · iexact Hs
  isplitl [Hd]; · iexact Hd
  isplitl [HO]; · iexact HO
  isplitl [Ht1]; · iexact Ht1
  isplitr; · iapply (reached_of m ρ K c 3); iexact HR
  isplitl [Ht2]; · iexact Ht2
  iapply (reached_of m ρ K (over c) 4); iexact HR

/-- Waiting for a transfer on cell `k`, while `O` is owed: the cell's payload, and the cell past its round. -/
theorem wait_cell (c : Dev nD) (k : Fin 5) (hk : dutySet k = {false}) (n : ℕ) (hn : n = takes k) (O : CellTallies nD τ sig Unit)
    {w : TpuEff nD τ sig (Elt F) Λ₀ (c : Thread nD τ).2 PUnit}
    (hw : ∀ Kt : PUnit → sProp 𝕄, wpE (defs₀ (F := F)) 𝒱₀ (c : Thread nD τ) none Set.univ w Kt = waitSpec (c : Thread nD τ) Set.univ (csem k) n Kt)
    {α : Type} {Q : α → sProp 𝕄} {kt : PUnit → Prog (TpuEff nD τ sig (Elt F) Λ₀ .tc) α} (W : Waits sig Unit) :
    iprop(records m ρ K ∗ cred (tallyAt (cell c k) () n) ∗ owes (c : Thread nD τ) O W ∗ MayWait (c : Thread nD τ) (csem k) () O ∗ atPos EX (cell c k) 0 ∅ 0)
      ⊢ iprop(((owes (c : Thread nD τ) O (insert (csem k, ()) W) ∗ atPos EX (cell c k) 1 ∅ 0 ∗ hand m ρ c k false)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  iintro ⟨#HR, Hc, HO, HM, Hat⟩ Hk
  iapply (Rounds.wp_wait_rest_token 𝒱₀ EX (sched m ρ) (c : Thread nD τ) none (κ := K (c, k))
      hw (Set.mem_univ _) () (O := O) (W := W) (R := 0) (m := 0) (T := ∅)
      (by rw [Nat.zero_add, hn]; exact (expect_at m ρ c k).symm)) $$ [Hc HO HM Hat]
  · isplitr; · iapply (inv_of m ρ K c k); iexact HR
    isplitl [Hc]; · iexact Hc
    isplitl [HO]; · iexact HO
    isplitl [HM]; · iexact HM
    iexact Hat
  iintro ⟨HO, Hat, -, Hpay⟩
  ihave Hp := (Entails.of_eq (rest_at m ρ c k hk)) $$ Hpay
  iapply Hk
  isplitl [HO]; · iexact HO
  isplitl [Hat]; · iexact Hat
  iexact Hp

/-- A cell past its round closes: its counter is zero and the device's again. -/
theorem close (c : Dev nD) (k : Fin 5) :
    iprop(records m ρ K ∗ atPos EX (cell c k) 1 ∅ 0) ⊢ iprop(|={Set.univ}=> semVal (cell c k) 0 : sProp 𝕄) := by
  iintro ⟨#HR, Hat⟩
  iapply (Rounds.cell_close EX (sched m ρ) (Set.mem_univ (K (c, k))) (fun h => h) (R := 1) (duties_later m ρ (cell c k)))
  isplitr; · iapply (inv_of m ρ K c k); iexact HR
  iexact Hat

end Steps

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with. -/
def entry (c : Dev nD) : sProp 𝕄 :=
  iprop((start m ρ c ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body leaves. -/
def exit (c : Dev nD) : sProp 𝕄 :=
  iprop((scratch c ∗ zeros c) ∗ (dats m ρ 0 c).owesAt () t₀.succ ∗ stg c cc0_stg0_0 (xstg m ρ c) ∗ stg c cc0_stg1_0 (outAt m ρ c))

/-- A separating product over the five cells, cell by cell. -/
theorem five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide), bigSepL_cons_cons, bigSepL_cons_cons, bigSepL_cons_cons,
    bigSepL_cons_cons, bigSepL_singleton]
  rfl

/-- The own slot after the store of the sorted block. -/
theorem stored_slot (c : Dev nD) (f : (cc0_scratch0 : Ref sig .tc).ty.Contents (Elt F)) :
    ((((pM : Memref sig .tc .vmem S2x256x128 .f32).access (rSlot c)) : View sig .tc _ _ _).loc (c : Thread nD τ) ↦[(slotM c).view.set]{fullShare}
        (((pM : Memref sig .tc .vmem S2x256x128 .f32).access (rSlot c)) : View sig .tc _ _ _).write (Elt F) f (sortPay c (xstg m ρ c)) Finset.univ : sProp 𝕄)
      = slotAt c c (pairC m ρ c) := by
  unfold slotAt
  refine pointsTo_congr fun i hi => ?_
  exact write_slot c (fun b => sorted m ρ (filler c b)) (sortPay c (xstg m ρ c)) (by rw [filler_bit]; rfl) f i hi

set_option maxHeartbeats 1600000 in
/-- The body, run rule by rule from `entry` to `exit`. -/
theorem sound_body (c : Dev nD) (Kt : PUnit → sProp 𝕄) :
    iprop(entry m ρ c ∗ (exit m ρ c -∗ Kt ⟨⟩)) ⊢ wp frame (wpE (defs₀ (F := F)) 𝒱₀ c none) Set.univ (flat (F := F)) Kt := by
  unfold flat
  simp only [semSignalWord, semWaitWord, Prog.lift, Prog.bind_op, Prog.bind_ret, Prog.pure_eq_ret, wp_deviceId]
  unfold entry start scratch places credits payToks
  rw [five]
  iintro ⟨⟨⟨⟨⟨%K, #HR, ⟨Ha0, Ha1, Ha2, Ha3, Ha4⟩, Ht1, Ht2, Ht3, Ht4, Ht5, Ht6⟩, ⟨Hc0, Hc2, Hc4⟩, #Hlev⟩, ⟨%fp, Hpair⟩, ⟨%fo, Hown⟩, ⟨%fl, Hland⟩⟩,
    Ho, ⟨%d0, %g0, %hg0, Hx⟩, ⟨%d1, %g1, %hg1, Hout⟩⟩, Hk⟩
  have hx : g0 = xstg m ρ c := by rw [hg0]; unfold Dat.before; rw [if_pos (fetch_in t₀)]; rfl
  subst hx
  unfold Dat.owesAt Pipeline.owesWithin
  icases Ho with ⟨%W, %hW, HO⟩
  rw [show (dats m ρ 0 c).owed t₀.castSucc = owed₁ c + tallyAt (cell (across c) 0) () 1 from rfl]
  simp only [dev1_eq c, dev2_eq c]
  ihave Hs := (pair_split c fp).1 $$ Hpair
  icases Hs with ⟨Hmine, Htheirs⟩
  -- the first signal lends the partner the slot it will fill
  iapply (Rounds.wp_signal 𝒱₀ EX (sched m ρ) (c : Thread nD τ) none (dst := (across c : Thread nD τ)) (κ := K (across c, 0))
      (d := false) (by rw [show (((across c : Thread nD τ), SemLoc.reg barS) : GSem nD τ sig) = cell (across c) 0 from rfl, duties_at]; exact Finset.mem_univ _)
      ((amount_at m ρ (across c) 0 false).trans (by decide)) () (owed₁ c) rfl)
    $$ [HO Ht1 Htheirs]
  · isplitr; · iapply (inv_of m ρ K (across c) 0); iexact HR
    isplitl [HO]; · iexact HO
    isplitl [Ht1]; · iexact Ht1
    isplitl [Htheirs]
    · rw [show (((across c : Thread nD τ), SemLoc.reg barS) : GSem nD τ sig) = cell (across c) 0 from rfl, payload_at]
      rw [show hand m ρ (across c) 0 false = iprop(∃ f, slotAt (across (across c)) (across c) f) from rfl, across_across]
      iexists fp; iexact Htheirs
    · iapply (reached_of m ρ K (across c) 0); iexact HR
  iintro HO
  unfold owed₁
  -- the second lends the landing buffer
  iapply (Rounds.wp_signal 𝒱₀ EX (sched m ρ) (c : Thread nD τ) none (dst := (over c : Thread nD τ)) (κ := K (over c, 0))
      (d := true) (by rw [show (((over c : Thread nD τ), SemLoc.reg barS) : GSem nD τ sig) = cell (over c) 0 from rfl, duties_at]; exact Finset.mem_univ _)
      ((amount_at m ρ (over c) 0 true).trans (by decide)) () (owed₂ c) rfl)
    $$ [HO Ht2 Hland]
  · isplitr; · iapply (inv_of m ρ K (over c) 0); iexact HR
    isplitl [HO]; · iexact HO
    isplitl [Ht2]; · iexact Ht2
    isplitl [Hland]
    · rw [show (((over c : Thread nD τ), SemLoc.reg barS) : GSem nD τ sig) = cell (over c) 0 from rfl, payload_at]
      rw [show hand m ρ (over c) 0 true = iprop(∃ f, landAt (over (over c)) f) from rfl, over_over]
      iexists fl; iexact Hland
    · iapply (reached_of m ρ K (over c) 0); iexact HR
  iintro HO
  -- the wait for both
  iapply (Rounds.wp_wait_rest_token 𝒱₀ EX (sched m ρ) (c : Thread nD τ) none (κ := K (c, 0))
      (wpE_semWait_eq 𝒱₀ (c : Thread nD τ) none Set.univ) (Set.mem_univ _) () (O := owed₂ c) (W := W) (R := 0) (m := 0) (T := ∅)
      (by rw [show (((c : Thread nD τ), SemLoc.reg barS) : GSem nD τ sig) = cell c 0 from rfl, expect_at]; decide)) $$ [Hc0 HO Ha0]
  · isplitr; · iapply (inv_of m ρ K c 0); iexact HR
    isplitl [Hc0]; · iexact Hc0
    isplitl [HO]; · iexact HO
    isplitr; · iapply (wait_bar c); iexact Hlev
    iexact Ha0
  iintro ⟨HO, Ha0, -, Hpay⟩
  rw [show (((c : Thread nD τ), SemLoc.reg barS) : GSem nD τ sig) = cell c 0 from rfl]
  ihave Hp := (Entails.of_eq (rest_bar m ρ c)) $$ Hpay
  icases Hp with ⟨⟨%fn, Hslot⟩, ⟨%fm, Hdest⟩⟩
  -- the own block, sorted, into the own slot
  iapply (wp_load 𝒱₀ (c : Thread nD τ) none Set.univ (m := xM) (Finset.subset_univ _)) $$ Hx; iintro Hx
  rw [read_x]
  unfold slotAt
  iapply (wp_load_rect 𝒱₀ (c : Thread nD τ) none Set.univ (m := pM) (r := rSlot c) (by rw [store_slot])) $$ Hmine; iintro Hmine
  iapply (wp_store 𝒱₀ (c : Thread nD τ) none Set.univ (m := pM) (r := rSlot c) (Mk := Finset.univ)
    (S := (slotM c).view.set) (Finset.Subset.trans (View.setOn_subset_set _ _) (by rw [store_slot]))) $$ Hmine; iintro Hmine
  ihave Hmine := (Entails.of_eq (stored_slot m ρ c fp)) $$ Hmine
  -- the exchange within the pair
  iapply (send_pair m ρ K c _ (dev3_eq c) fn (insert (SemLoc.reg barS, ()) W)) $$ [Hmine Hslot HO Ht3 Ht4]
  · isplitr; · iexact HR
    isplitl [Hmine]; · iexact Hmine
    isplitl [Hslot]; · unfold slotAt; iexact Hslot
    isplitl [HO]; · iexact HO
    isplitl [Ht3] <;> iassumption
  iintro ⟨Hc1, HO⟩
  iapply (wait_cell m ρ K c 1 rfl NA rfl _ (w := .waitDma2 qA (slotM c) (slotM c) ((View.wordExact_bits rfl).reshape _ _) ((View.wordExact_bits rfl).reshape _ _))
      (wpE_waitDma2_eq 𝒱₀ (c : Thread nD τ) none Set.univ) _) $$ [Hc1 HO Ha1]
  · isplitr; · iexact HR
    isplitl [Hc1]; · iexact Hc1
    isplitl [HO]; · iexact HO
    isplitr; · iapply (wait_pair c 1 (by decide)); iexact Hlev
    iexact Ha1
  iintro ⟨HO, Ha1, Hmine⟩
  iapply (wait_cell m ρ K c 2 rfl NA rfl _ (w := .waitDma2 qB (slotM c) (slotM c) ((View.wordExact_bits rfl).reshape _ _) ((View.wordExact_bits rfl).reshape _ _))
      (wpE_waitDma2_eq 𝒱₀ (c : Thread nD τ) none Set.univ) _) $$ [Hc2 HO Ha2]
  · isplitr; · iexact HR
    isplitl [Hc2]; · iexact Hc2
    isplitl [HO]; · iexact HO
    isplitr; · iapply (wait_pair c 2 (by decide)); iexact Hlev
    iexact Ha2
  iintro ⟨HO, Ha2, Htheirs⟩
  ihave Hmine := (Entails.of_eq (show hand m ρ c 1 false = slotAt c c (pairC m ρ c) from rfl)) $$ Hmine
  ihave Htheirs := (Entails.of_eq (show hand m ρ c 2 false = slotAt c (across c) (pairC m ρ c) from rfl)) $$ Htheirs
  ihave Hpair := (pair_split c (pairC m ρ c)).2 $$ [Hmine Htheirs]
  · isplitl [Hmine]
    · iexact Hmine
    · iexact Htheirs
  -- the pair's two blocks, merged
  unfold pairAt ownAt
  iapply (wp_load 𝒱₀ (c : Thread nD τ) none Set.univ (m := pM) (Finset.subset_univ _)) $$ Hpair; iintro Hpair
  rw [read_pair]
  iapply (wp_load 𝒱₀ (c : Thread nD τ) none Set.univ (m := aM) (Finset.subset_univ _)) $$ Hown; iintro Hown
  iapply (wp_store 𝒱₀ (c : Thread nD τ) none Set.univ (m := aM) (r := rL) (Mk := Finset.univ) (Finset.subset_univ _)) $$ Hown; iintro Hown
  rw [write_own]
  -- the exchange between the pairs
  iapply (send_merged m ρ K c _ (dev4_eq c) fm _) $$ [Hown Hdest HO Ht5 Ht6]
  · isplitr; · iexact HR
    isplitl [Hown]; · unfold ownAt; iexact Hown
    isplitl [Hdest]; · iexact Hdest
    isplitl [HO]; · iexact HO
    isplitl [Ht5] <;> iassumption
  iintro ⟨Hc3, HO⟩
  iapply (wait_cell m ρ K c 3 rfl NB rfl _ (w := .waitDma2 qC bM aM (Memref.isWhole_whole cc0_scratch2).wordExact (Memref.isWhole_whole cc0_scratch1).wordExact)
      (wpE_waitDma2_eq 𝒱₀ (c : Thread nD τ) none Set.univ) _) $$ [Hc3 HO Ha3]
  · isplitr; · iexact HR
    isplitl [Hc3]; · iexact Hc3
    isplitl [HO]; · iexact HO
    isplitr; · rw [MayWait_zero]; iempintro
    iexact Ha3
  iintro ⟨HO, Ha3, Hown⟩
  iapply (wait_cell m ρ K c 4 rfl NB rfl _ (w := .waitDma2 qD aM bM (Memref.isWhole_whole cc0_scratch1).wordExact (Memref.isWhole_whole cc0_scratch2).wordExact)
      (wpE_waitDma2_eq 𝒱₀ (c : Thread nD τ) none Set.univ) _) $$ [Hc4 HO Ha4]
  · isplitr; · iexact HR
    isplitl [Hc4]; · iexact Hc4
    isplitl [HO]; · iexact HO
    isplitr; · rw [MayWait_zero]; iempintro
    iexact Ha4
  iintro ⟨HO, Ha4, Hland⟩
  -- the last compare and merge, and the half the device keeps
  ihave Hown := (Entails.of_eq (show hand m ρ c 3 false = (((c : Thread nD τ).loc cc0_scratch1) ↦{fullShare} merged m ρ c) from rfl)) $$ Hown
  ihave Hland := (Entails.of_eq (show hand m ρ c 4 false = (((c : Thread nD τ).loc cc0_scratch2) ↦{fullShare} merged m ρ (over c)) from rfl)) $$ Hland
  iapply (wp_load 𝒱₀ (c : Thread nD τ) none Set.univ (m := aM) (Finset.subset_univ _)) $$ Hown; iintro Hown
  rw [read_own]
  iapply (wp_load 𝒱₀ (c : Thread nD τ) none Set.univ (m := bM) (Finset.subset_univ _)) $$ Hland; iintro Hland
  rw [read_land]
  iapply (wp_load 𝒱₀ (c : Thread nD τ) none Set.univ (m := aM) (Finset.subset_univ _)) $$ Hown; iintro Hown
  iapply (wp_store 𝒱₀ (c : Thread nD τ) none Set.univ (m := aM) (r := rL) (Mk := Finset.univ) (Finset.subset_univ _)) $$ Hown; iintro Hown
  rw [write_own]
  iapply (wp_load 𝒱₀ (c : Thread nD τ) none Set.univ (m := aM) (Finset.subset_univ _)) $$ Hown; iintro Hown
  iapply (wp_load 𝒱₀ (c : Thread nD τ) none Set.univ (m := oM) (Finset.subset_univ _)) $$ Hout; iintro Hout
  iapply (wp_store 𝒱₀ (c : Thread nD τ) none Set.univ (m := oM) (r := rS) (Mk := Finset.univ) (Finset.subset_univ _)) $$ Hout; iintro Hout
  rw [write_out]
  -- the five cells close
  imod (close m ρ K c 0) $$ [Ha0] with Hz0
  · isplitr; · iexact HR
    iexact Ha0
  imod (close m ρ K c 1) $$ [Ha1] with Hz1
  · isplitr; · iexact HR
    iexact Ha1
  imod (close m ρ K c 2) $$ [Ha2] with Hz2
  · isplitr; · iexact HR
    iexact Ha2
  imod (close m ρ K c 3) $$ [Ha3] with Hz3
  · isplitr; · iexact HR
    iexact Ha3
  imod (close m ρ K c 4) $$ [Ha4] with Hz4
  · isplitr; · iexact HR
    iexact Ha4
  rw [wp_ret]; imodintro
  iapply Hk
  unfold exit scratch zeros Dat.owesAt Pipeline.owesWithin
  rw [show (dats m ρ 0 c).owed t₀.succ = 0 from rfl, five]
  isplitl [Hpair Hown Hland Hz0 Hz1 Hz2 Hz3 Hz4]
  · isplitl [Hpair Hown Hland]
    · isplitl [Hpair]; · iexists _; unfold pairAt; iexact Hpair
      isplitl [Hown]; · iexists _; unfold ownAt; iexact Hown
      iexists _; unfold landAt; iexact Hland
    isplitl [Hz0]; · iexact Hz0
    isplitl [Hz1]; · iexact Hz1
    isplitl [Hz2]; · iexact Hz2
    isplitl [Hz3] <;> iassumption
  isplitl [HO]
  · iexists (insert (csem 4, ()) (insert (csem 3, ()) (insert (csem 2, ()) (insert (csem 1, ()) (insert (SemLoc.reg barS, ()) W)))))
    isplitr; · ipureintro; exact fun _ _ => Or.inl trivial
    iexact HO
  isplitl [Hx]
  · iexists _; isplitr; · (ipureintro; rfl)
    iexact Hx
  iexists _; isplitr; · (ipureintro; rfl)
  iexact Hout

/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show entry m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3) (fun _ => exit m ρ c)
  rw [body_flat]
  iintro H
  iapply (sound_body m ρ c fun _ => exit m ρ c)
  isplitl [H]; · iexact H
  iintro H; iexact H

end Cert.Exchange

end
-- ==== Proof.Launch.lean ====
/-
# The run of the whole launch

What the launch holds becomes what each device's body starts from: the semaphores at zero and the protocol's
ghost state open the twenty cells, each duty's token goes to the device that pays it, and the credit of every
debt goes to the device that waits for it. The launch theorem then runs the four bodies together.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores. -/
abbrev osem : Fin 4 → SemLoc sig := ![.dma qA, .dma qB, .dma qC, .dma qD]

theorem ownSemFacts : Pipeline.OwnSemFacts cfg0.spec osem := by decide

theorem share_full (c : Dev nD) (w : Fin cfg0.W) : (dats m ρ 0 c).share w = fullShare := by unfold Dat.share; split <;> rfl

theorem cells_inj : Function.Injective (fun ck : Dev nD × Fin 5 => cell ck.1 ck.2) := fun a b h =>
  Prod.ext (cell_inj h).1 (cell_inj h).2

/-- All the cells. -/
def allCells : Finset (GSem nD τ sig) := Finset.univ.map ⟨_, cells_inj⟩

/-- Which cell the `j`th token of a device belongs to: the barrier has two. -/
def tokCell : Fin 6 → Fin 5 := ![0, 0, 1, 2, 3, 4]

/-- The `j`th token of device `c`'s cells: token 1 is the barrier's `true`, all others are `false`. -/
def tokAt (cj : Dev nD × Fin 6) : GSem nD τ sig × ℕ × Bool := (cell cj.1 (tokCell cj.2), 0, decide (cj.2 = 1))

theorem tokAt_inj : Function.Injective tokAt := by
  rintro ⟨c, j⟩ ⟨d, k⟩ h
  obtain ⟨h1, h2⟩ := cell_inj (congrArg Prod.fst h)
  have h3 : decide (j = 1) = decide (k = 1) := congrArg (fun x => x.2.2) h
  exact Prod.ext h1 ((by decide : ∀ j k : Fin 6, tokCell j = tokCell k → decide (j = 1) = decide (k = 1) → j = k) j k h2 h3)

def allToks : Finset (GSem nD τ sig × ℕ × Bool) := Finset.univ.map ⟨tokAt, tokAt_inj⟩

/-- The ghost state the launch mints. -/
def u₀ : UU := (initOf (Pipeline.cells cfgs cellOf_inj) (Pipeline.launchToks cfgs cellOf_inj), initOf allCells allToks)

/-- The tokens of device `c`'s own cells. -/
def ownToks (c : Dev nD) : sProp 𝕄 :=
  iprop(dutyTok EX (cell c 0) 0 false ∗ dutyTok EX (cell c 0) 0 true ∗ dutyTok EX (cell c 1) 0 false
    ∗ dutyTok EX (cell c 2) 0 false ∗ dutyTok EX (cell c 3) 0 false ∗ dutyTok EX (cell c 4) 0 false)

/-- A device's part of the minted state. -/
def G (c : Dev nD) : sProp 𝕄 :=
  iprop((bigSep Finset.univ fun k : Fin 5 => roundState EX (sched m ρ) (cell c k) 0)
    ∗ (bigSep Finset.univ fun k : Fin 5 => iprop(atPos EX (cell c k) 0 ∅ 0 ∗ reached EX (cell c k) 0)) ∗ ownToks c)

/-- A device's part once the cells are open and the tokens dealt. -/
def G' (c : Dev nD) : sProp 𝕄 := iprop(∃ K, records m ρ K ∗ places c ∗ payToks c)

theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide), bigSepL_cons_cons, bigSepL_cons_cons, bigSepL_cons_cons,
    bigSepL_cons_cons, bigSepL_cons_cons, bigSepL_singleton]
  rfl

theorem over_cells (Φ : GSem nD τ sig → sProp 𝕄) :
    bigSep allCells Φ = bigSep Finset.univ fun c : Dev nD => bigSep Finset.univ fun k : Fin 5 => Φ (cell c k) := by
  unfold allCells; rw [bigSep_map, bigSep_univ_prod]; rfl

theorem over_toks : bigSep allToks (fun x => (dutyTok EX x.1 x.2.1 x.2.2 : sProp 𝕄)) = bigSep Finset.univ fun c : Dev nD => ownToks c := by
  unfold allToks; rw [bigSep_map, bigSep_univ_prod]
  exact bigSep_congr fun c _ => by unfold ownToks; rw [six]; rfl

/-- The minted state, device by device. -/
theorem mint : BI.own (EX (initOf allCells allToks)) ⊢ (|==> bigSep Finset.univ (G m ρ) : sProp 𝕄) := by
  iintro H
  imod (Rounds.fund EX (sched m ρ) allCells allToks) $$ H with ⟨Hst, Hr, Hat, Htok⟩
  imodintro
  ihave Hst := (Entails.of_eq (over_cells fun g => roundState EX (sched m ρ) g 0)) $$ Hst
  ihave Hat := (Entails.of_eq (over_cells fun g => atPos EX g 0 ∅ 0)) $$ Hat
  ihave Hr := (Entails.of_eq (over_cells fun g => reached EX g 0)) $$ Hr
  ihave Htok := (Entails.of_eq over_toks) $$ Htok
  unfold G; simp only [bigSep_sep']
  isplitl [Hst]; · iexact Hst
  isplitl [Hat Hr]
  · isplitl [Hat] <;> iassumption
  iexact Htok

/-! ## Opening the cells -/

theorem ownSems_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0) := by
  rw [Pipeline.ownSems0_eq_of_list c osem [0, 1, 2, 3] (by decide) (by decide)]; rfl

theorem barSem_eq (c : Dev nD) : (unscopedSems0 c : sProp 𝕄) = semVal (cell c 0) 0 := by
  unfold unscopedSems0; rw [bigSep_eq_bigSepL_of_eq [SemLoc.reg barS] (by decide) (by decide)]; rfl

/-- A device's five counters at zero are its four own and the barrier's. -/
theorem zeros_eq (c : Dev nD) :
    (zeros c : sProp 𝕄) ⊣⊢ iprop(unscopedSems0 c
      ∗ Pipeline.ownSems0 (Ix := Unit) (Name := ℕ) (U := UU) (Lvl := ℕ) (Val := Elt F) (τ := τ) osem c) := by
  unfold zeros
  rw [ownSems_eq, barSem_eq, five]

/-- Every cell of a device opened at its counter's zero. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (sched m ρ) κ (cell c k)))
          ∗ (bigSep Finset.univ fun k => iprop(atPos EX (cell c k) 0 ∅ 0 ∗ reached EX (cell c k) 0)) ∗ ownToks c) := by
  unfold G
  iintro ⟨Hos, Hus, Hst, Hat, Htok⟩
  ihave Hz := (zeros_eq (F := F) c).2 $$ [Hos Hus]
  · isplitl [Hus] <;> iassumption
  imod (show iprop(zeros c ∗ bigSep Finset.univ fun k : Fin 5 => roundState EX (sched m ρ) (cell c k) 0)
      ⊢ (|={Set.univ}=> bigSep Finset.univ fun k => iprop(∃ κ : ℕ, cellInv EX (sched m ρ) κ (cell c k)) : sProp 𝕄) from by
        unfold zeros
        rw [← bigSep_sep']
        exact (bigSep_mono fun k _ => (Rounds.body_intro EX (sched m ρ) (cell c k)).trans inv_alloc).trans (bigSep_fupd _ _)) $$ [Hz Hst] with Hinv
  · isplitl [Hz] <;> iassumption
  imodintro
  isplitl [Hinv]; · iexact Hinv
  isplitl [Hat] <;> iassumption

/-- Every token to the device that pays its duty. -/
theorem deal : (bigSep Finset.univ fun c : Dev nD => (ownToks c : sProp 𝕄)) ⊢ bigSep Finset.univ fun c : Dev nD => payToks c := by
  unfold ownToks payToks
  simp only [bigSep_sep']
  rw [bigSep_univ_equiv acrossE (fun c : Dev nD => (dutyTok EX (cell c 0) 0 false : sProp 𝕄)),
    bigSep_univ_equiv overE (fun c : Dev nD => (dutyTok EX (cell c 0) 0 true : sProp 𝕄)),
    bigSep_univ_equiv acrossE (fun c : Dev nD => (dutyTok EX (cell c 2) 0 false : sProp 𝕄)),
    bigSep_univ_equiv overE (fun c : Dev nD => (dutyTok EX (cell c 4) 0 false : sProp 𝕄))]
  exact .rfl

/-- A shared fact goes to every member of a product. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The opened cells of all devices become shared records; positions stay and tokens are dealt. -/
theorem regroup :
    (bigSep Finset.univ fun c : Dev nD => iprop((bigSep Finset.univ fun k => iprop(∃ κ : ℕ, cellInv EX (sched m ρ) κ (cell c k)))
          ∗ (bigSep Finset.univ fun k => iprop(atPos EX (cell c k) 0 ∅ 0 ∗ reached EX (cell c k) 0)) ∗ ownToks c) : sProp 𝕄)
      ⊢ bigSep Finset.univ (G' m ρ) := by
  rw [bigSep_sep', bigSep_sep', ← bigSep_univ_prod (fun ck : Dev nD × Fin 5 => iprop(∃ κ : ℕ, cellInv EX (sched m ρ) κ (cell ck.1 ck.2))),
    bigSep_congr (s := Finset.univ) (fun (c : Dev nD) _ => bigSep_sep' Finset.univ (fun k : Fin 5 => (atPos EX (cell c k) 0 ∅ 0 : sProp 𝕄)) (fun k => reached EX (cell c k) 0)),
    bigSep_sep', ← bigSep_univ_prod (fun ck : Dev nD × Fin 5 => (reached EX (cell ck.1 ck.2) 0 : sProp 𝕄))]
  iintro ⟨HI, ⟨Hat, #HR⟩, Htok⟩
  ihave HK := (BI.bigSep_exists_pi Finset.univ (fun (ck : Dev nD × Fin 5) (κ : ℕ) => (cellInv EX (sched m ρ) κ (cell ck.1 ck.2) : sProp 𝕄))) $$ HI
  icases HK with ⟨%K, #HI⟩
  ihave Hpay := (deal (F := F)) $$ Htok
  iapply (share_out (R := records m ρ K) (Φ := fun c : Dev nD => iprop(places c ∗ payToks c)) fun c _ =>
    (show iprop(records m ρ K ∗ places c ∗ payToks c) ⊢ G' m ρ c from by
      unfold G'
      iintro H
      iexists K
      iexact H))
  isplitr
  · unfold records
    isplitl
    · iexact HI
    · iexact HR
  · rw [bigSep_sep']
    unfold places
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## The credit -/

/-- A debt at cell `k` of device `d'`, read at cell `k` or another one of device `c`. -/
theorem tally_read (d c : Dev nD) (j k : Fin 5) (n : ℕ) :
    (tallyAt (cell d j) () n : CellTallies nD τ sig Unit) (cell c k) () = if j = k then (if d = c then n else 0) else 0 := by
  rw [tallyAt_apply]
  by_cases hj : j = k
  · subst hj
    rw [if_pos rfl]
    by_cases hd : d = c
    · subst hd; rw [if_pos ⟨rfl, rfl⟩, if_pos rfl]
    · rw [if_neg (fun h => hd (cell_inj h.1).1.symm), if_neg hd]
  · rw [if_neg hj, if_neg (fun h => hj (cell_inj h.1).2.symm)]

/-- What device `d` owes cell `k` of device `c`. -/
theorem owed_read (d c : Dev nD) (k : Fin 5) : owed₀ d (cell c k) ()
    = (((if (4 : Fin 5) = k then (if over d = c then NB else 0) else 0) + (if (2 : Fin 5) = k then (if across d = c then NA else 0) else 0))
        + (if (0 : Fin 5) = k then (if over d = c then 1 else 0) else 0)) + (if (0 : Fin 5) = k then (if across d = c then 1 else 0) else 0) := by
  unfold owed₀ owed₁ owed₂
  rw [Pi.add_apply, Finsupp.add_apply, Pi.add_apply, Finsupp.add_apply, Pi.add_apply, Finsupp.add_apply, tally_read, tally_read, tally_read, tally_read]

/-- Only `over c` has `c` over it, and only `across c` has `c` across. -/
theorem sum_over (c : Dev nD) (n : ℕ) : (∑ d : Dev nD, if over d = c then n else 0) = n := by
  rw [Finset.sum_congr rfl fun d _ => if_congr (show over d = c ↔ d = over c from
    ⟨fun h => by rw [← h, over_over], fun h => by rw [h, over_over]⟩) rfl rfl, Finset.sum_ite_eq' Finset.univ (over c) fun _ => n, if_pos (Finset.mem_univ _)]
theorem sum_across (c : Dev nD) (n : ℕ) : (∑ d : Dev nD, if across d = c then n else 0) = n := by
  rw [Finset.sum_congr rfl fun d _ => if_congr (show across d = c ↔ d = across c from
    ⟨fun h => by rw [← h, across_across], fun h => by rw [h, across_across]⟩) rfl rfl, Finset.sum_ite_eq' Finset.univ (across c) fun _ => n, if_pos (Finset.mem_univ _)]

/-- The launch's credit at cell `k` of a device: what all devices together owe there. -/
theorem credit_at (c : Dev nD) (k : Fin 5) (n : ℕ) (hn : (∑ d : Dev nD, owed₀ d (cell c k) ()) = n) :
    tallyOn (cell c k) (launchCredit (Pipeline.owing owed₀) 0 (cell c k)) = (tallyAt (cell c k) () n : CellTallies nD τ sig Unit) := by
  unfold tallyAt; refine congrArg _ (Finsupp.ext fun u => ?_); cases u
  rw [Pipeline.launchCredit_owing, Finsupp.single_eq_same, hn]

theorem credit_bar (c : Dev nD) : (∑ d : Dev nD, owed₀ d (cell c 0) ()) = 2 := by
  rw [Finset.sum_congr rfl fun d _ => owed_read d c 0]
  simp only [if_true, show ((4 : Fin 5) = 0) = False from by decide, show ((2 : Fin 5) = 0) = False from by decide, if_false, Nat.zero_add]
  rw [Finset.sum_add_distrib, sum_over, sum_across]
theorem credit_pair (c : Dev nD) : (∑ d : Dev nD, owed₀ d (cell c 2) ()) = NA := by
  rw [Finset.sum_congr rfl fun d _ => owed_read d c 2]
  simp only [if_true, show ((4 : Fin 5) = 2) = False from by decide, show ((0 : Fin 5) = 2) = False from by decide, if_false, Nat.zero_add, Nat.add_zero]
  rw [sum_across]
theorem credit_block (c : Dev nD) : (∑ d : Dev nD, owed₀ d (cell c 4) ()) = NB := by
  rw [Finset.sum_congr rfl fun d _ => owed_read d c 4]
  simp only [if_true, show ((2 : Fin 5) = 4) = False from by decide, show ((0 : Fin 5) = 4) = False from by decide, if_false, Nat.zero_add, Nat.add_zero]
  rw [sum_over]

/-- The credit a device waits on, out of the launch's. -/
theorem creds (c : Dev nD) : (Pipeline.launchCred owed₀ c : sProp 𝕄) ⊢ credits c := by
  unfold Pipeline.launchCred credits
  rw [bigSep_univ_at _ (csem 0), credit_at c 0 2 (credit_bar c)]
  refine sep_mono_right ?_
  rw [bigSep_erase (i := csem 2) (Finset.mem_erase.mpr ⟨by decide, Finset.mem_univ _⟩), credit_at c 2 NA (credit_pair c)]
  refine sep_mono_right ?_
  rw [← credit_at c 4 NB (credit_block c)]
  exact bigSep_elim (Finset.mem_erase.mpr ⟨by decide, Finset.mem_erase.mpr ⟨by decide, Finset.mem_univ _⟩⟩)

/-! ## The conditions of the launch theorem -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch pairAt ownAt landAt
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ zeros c) from rfl, scopedRest0_eq]
  unfold scratch pairAt ownAt landAt
  iintro ⟨Hr, Hz⟩
  ihave Hz := (zeros_eq (F := F) c).1 $$ Hz
  icases Hz with ⟨Hb, Ho⟩
  isplitl [Hb]; · iexact Hb
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

/-- Window `w`'s array after the run. -/
def finalA (c : Dev nD) (w : Fin cfg0.W) : Buf (Elt F) ((cfg0.win w).arr.view.loc (c : Thread nD τ)) := (dats m ρ 0 c).arrAt w cfg0.N

/-- Every device's arrays at the end. -/
def Done : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the four devices ends, with every device's
    arrays at the computed contents and every counter at zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array holds at the end what it held. -/
theorem finalA_in (c : Dev nD) : finalA m ρ c (0 : Fin 2) = m ((c : Thread nD τ).loc main_arg0) :=
  (dats (F := F) m ρ 0 c).arrAt_in (0 : Fin 2) rfl _

end Cert.Exchange

end
-- ==== Proof.Stages.lean ====
/-
# The computed values as chains of compare-exchange stages

Every stage of the kernel's network is printed as a pair of rotations (two slices joined the other way round),
a choice between them, a row mask and a choice between the minimum and the maximum. Here that text is one
function of the number of rows, the distance and the mask, and the three computed values are chains of it.
-/
module

public import proofs.«01_k».proof.Proof.Flat

@[expose] public section

noncomputable section

namespace Cert.Exchange

open Cert.KernelIdeal Cert.KernelIdeal.Gen
open Idealize.ShloMosaic

variable {F : FTy → Type} [FloatOps F]

/-- `m` rows of 128 lanes. -/
abbrev rows (m : ℕ) : Shape := ⟨2, ![m, 128]⟩

/-- Some `n` consecutive rows of `m`. -/
theorem rows_slices {m n o : ℕ} (h : o + n ≤ m) : (rows m).Slices ![o, 0] (rows n) :=
  ⟨rfl, fun a => match a with | ⟨0, _⟩ => h | ⟨1, _⟩ => Nat.le_refl 128⟩

/-- Two runs of rows, one after the other. -/
theorem rows_joins {a b m : ℕ} (h : a + b = m) : Shape.Concatenates [rows a, rows b] (rows m) 0 := by
  refine ⟨Nat.le_refl 2, ?_, ?_⟩
  · intro s hs
    simp only [List.mem_cons, List.not_mem_nil, or_false] at hs
    obtain rfl | rfl := hs <;>
      exact ⟨rfl, fun b hb => match b, hb with | ⟨0, _⟩, hb => absurd rfl hb | ⟨1, _⟩, _ => rfl⟩
  · show a + (b + 0) = m
    omega

/-- The row numbers. -/
theorem rows_iotas (m : ℕ) : (rows m).Iotas .tc 32 [0] :=
  ⟨by simp, fun _ => ⟨Or.inr rfl, Nat.le_refl 2⟩, fun h => absurd rfl h⟩

/-- The rows whose number has bit `t` clear. -/
def clear (m t : ℕ) : IVec (rows m) 1 :=
  cmpi .eq (andi (iota .tc (rows m) 32 [0] (rows_iotas m)) (broadcast (rows m) (BitVec.ofNat 32 (2 ^ t))))
    (broadcast (rows m) 0#32)

/-- The vector turned by `p` rows: the last `q` rows first. -/
def turn {m : ℕ} (p q : ℕ) (h : p + q = m) (x : FVec F (rows m) .f32) : FVec F (rows m) .f32 :=
  concatenate (rows m) 0
    [⟨rows q, extractStridedSlice (rows q) ![p, 0] x (rows_slices (by omega))⟩,
     ⟨rows p, extractStridedSlice (rows p) ![0, 0] x (rows_slices (by omega))⟩]
    (rows_joins (by omega))

/-- Each row's partner at distance `2 ^ t`. -/
def partner {m : ℕ} (t : ℕ) (h : 2 ^ t ≤ m) (x : FVec F (rows m) .f32) : FVec F (rows m) .f32 :=
  select (clear m t) (turn (2 ^ t) (m - 2 ^ t) (by omega) x) (turn (m - 2 ^ t) (2 ^ t) (by omega) x)

/-- The rows that take the lesser of the two in an unturned network of bit `k`, at distance `2 ^ t`. -/
def lesser (m k t : ℕ) : IVec (rows m) 1 := xori (xori (clear m k) (clear m t)) (constantI (rows m) 1 1#1)

/-- The same, in the network turned over if `flip` is one. -/
def lesserIf (m : ℕ) (flip : BitVec 1) (k t : ℕ) : IVec (rows m) 1 := xori (lesser m k t) (broadcast (rows m) flip)

/-- A compare-exchange stage: each row keeps the lesser or the greater of itself and its partner. -/
def exch {m : ℕ} (mask : ℕ → IVec (rows m) 1) (t : ℕ) (h : 2 ^ t ≤ m) (x : FVec F (rows m) .f32) : FVec F (rows m) .f32 :=
  select (mask t) (minimumf x (partner t h x)) (maximumf x (partner t h x))

/-- The stages at distances `2 ^ (n - 1)` down to one. -/
def merges {m : ℕ} (mask : ℕ → IVec (rows m) 1) : (n : ℕ) → 2 ^ n ≤ m → FVec F (rows m) .f32 → FVec F (rows m) .f32
  | 0, _, x => x
  | n + 1, h, x => merges mask n (by rw [Nat.pow_succ] at h; omega) (exch mask n (by rw [Nat.pow_succ] at h; omega) x)

/-- A stage of the local sort of a block, at level `k` and distance `2 ^ t`. -/
abbrev ls (flip : BitVec 1) (k t : ℕ) (x : FVec F (rows 256) .f32) (h : 2 ^ t ≤ 256 := by decide) : FVec F (rows 256) .f32 :=
  exch (lesserIf 256 flip k) t h x

/-- A stage of the pair's merge. -/
abbrev ms (flip : BitVec 1) (t : ℕ) (x : FVec F (rows 512) .f32) (h : 2 ^ t ≤ 512 := by decide) : FVec F (rows 512) .f32 :=
  exch (lesserIf 512 flip 11) t h x

/-- A stage of the last merge. -/
abbrev fs (t : ℕ) (x : FVec F (rows 512) .f32) (h : 2 ^ t ≤ 512 := by decide) : FVec F (rows 512) .f32 :=
  exch (lesser 512 11) t h x

/-- The half of `partner` that reads ahead. -/
abbrev ahead {m : ℕ} (t : ℕ) (x : FVec F (rows m) .f32) (h : 2 ^ t ≤ m := by decide) : FVec F (rows m) .f32 :=
  turn (2 ^ t) (m - 2 ^ t) (by omega) x

/-- The half of `partner` that reads back. -/
abbrev back {m : ℕ} (t : ℕ) (x : FVec F (rows m) .f32) (h : 2 ^ t ≤ m := by decide) : FVec F (rows m) .f32 :=
  turn (m - 2 ^ t) (2 ^ t) (by omega) x

/-! ### The printed pieces

The body's text is cut without regard to the stages, so a piece may start or end inside one. Each theorem here
says which stages a piece computes, for any vector `v` it starts from. -/

section Pieces

variable (o : BitVec 1) (v : FVec F S256x128 .f32) (w : FVec F S512x128 .f32)

theorem local_a (c : Dev nD) (x : Vec F S256x128 .f32) :
    k0_pay6 (odd c) (k0_pay1 x) (k0_pay3 x) k0_pay4 (k0_pay5 c)
      = ls (odd c) 2 0 (ls (odd c) 2 1 (ls (odd c) 1 0 (k0_pay1 x))) := rfl

theorem local_b : k0_pay7 o v = ls o 3 1 (ls o 3 2 v) := rfl

theorem local_d : k0_pay9 o v (iota .tc S256x128 32 [0] iota_S256x128_d0_w32) k0_pay8 = ls o 4 3 (ls o 3 0 v) := rfl

theorem local_e : k0_pay11 o v (iota .tc S256x128 32 [0] iota_S256x128_d0_w32) k0_pay10 16#32 = ls o 4 1 (ls o 4 2 v) := rfl

theorem local_f : k0_pay15 o v k0_pay12 k0_pay13 k0_pay14 = ls o 5 4 (ls o 4 0 v) := rfl

theorem local_f' : k0_pay18 o v k0_pay12 k0_pay13 k0_pay14 = ahead 3 (k0_pay15 o v k0_pay12 k0_pay13 k0_pay14) := rfl

theorem local_g : k0_pay19 o v k0_pay16 k0_pay17 (ahead 3 v) = ls o 5 2 (ls o 5 3 v) := rfl

theorem local_g' (u : FVec F S256x128 .f32) :
    k0_pay22 o v k0_pay16 k0_pay17 u = partner 1 (by decide) (k0_pay19 o v k0_pay16 k0_pay17 u) := rfl

theorem local_h : k0_pay23 o v k0_pay20 k0_pay21 (partner 1 (by decide) v) = ls o 5 0 (ls o 5 1 v) := rfl

theorem local_h' (u : FVec F S256x128 .f32) :
    k0_pay25 o v k0_pay20 k0_pay21 u = partner 5 (by decide) (k0_pay23 o v k0_pay20 k0_pay21 u) := rfl

theorem local_i :
    k0_pay28 o v (partner 5 (by decide) v) k0_pay26 (k0_pay27 o) = ls o 6 3 (ls o 6 4 (ls o 6 5 v)) := rfl

theorem local_j : k0_pay29 o v = ls o 6 1 (ls o 6 2 v) := rfl

theorem local_k : k0_pay31 o v (iota .tc S256x128 32 [0] iota_S256x128_d0_w32) k0_pay30 = ls o 7 6 (ls o 6 0 v) := rfl

theorem local_l :
    k0_pay33 o v (iota .tc S256x128 32 [0] iota_S256x128_d0_w32) k0_pay32 128#32 = ls o 7 4 (ls o 7 5 v) := rfl

theorem local_o : k0_pay37 o v k0_pay34 k0_pay35 k0_pay36 = ls o 7 2 (ls o 7 3 v) := rfl

theorem local_o' : k0_pay40 o v k0_pay34 k0_pay35 k0_pay36 = ahead 1 (k0_pay37 o v k0_pay34 k0_pay35 k0_pay36) := rfl

theorem local_p : k0_pay41 o v k0_pay38 k0_pay39 (ahead 1 v) = ls o 7 0 (ls o 7 1 v) := rfl

theorem local_p' (u : FVec F S256x128 .f32) :
    k0_pay44 o v k0_pay38 k0_pay39 u = partner 7 (by decide) (k0_pay41 o v k0_pay38 k0_pay39 u) := rfl

theorem local_q : k0_pay45 o v k0_pay42 k0_pay43 (partner 7 (by decide) v) = ls o 8 6 (ls o 8 7 v) := rfl

theorem local_q' (u : FVec F S256x128 .f32) :
    k0_pay47 o v k0_pay42 k0_pay43 u = partner 5 (by decide) (k0_pay45 o v k0_pay42 k0_pay43 u) := rfl

theorem local_r :
    k0_pay50 o v (partner 5 (by decide) v) k0_pay48 (k0_pay49 o) = ls o 8 3 (ls o 8 4 (ls o 8 5 v)) := rfl

theorem local_s : k0_pay51 o v = ls o 8 1 (ls o 8 2 v) := rfl

theorem local_z :
    k0_pay53 o v (iota .tc S256x128 32 [0] iota_S256x128_d0_w32) k0_pay52
      = shapeCast S1x256x128 (ls o 8 0 v) shapeCasts_S256x128_S1x256x128 := rfl

theorem pair_a (c : Dev nD) (x : Vec F S2x256x128 .f32) :
    k0_pay54 (me c) x = ms (upper c) 8 (shapeCast S512x128 x shapeCasts_S2x256x128_S512x128) := rfl

theorem pair_b : k0_pay56 o w (iota .tc S512x128 32 [0] iota_S512x128_d0_w32) k0_pay55 = ms o 6 (ms o 7 w) := rfl

theorem pair_d : k0_pay58 o w (iota .tc S512x128 32 [0] iota_S512x128_d0_w32) k0_pay57 2048#32 = ms o 4 (ms o 5 w) := rfl

theorem pair_e : k0_pay62 o w k0_pay59 k0_pay60 k0_pay61 = ms o 2 (ms o 3 w) := rfl

theorem pair_e' : k0_pay65 o w k0_pay59 k0_pay60 k0_pay61 = ahead 1 (k0_pay62 o w k0_pay59 k0_pay60 k0_pay61) := rfl

theorem pair_z :
    k0_pay66 o w k0_pay63 k0_pay64 (ahead 1 w)
      = shapeCast S512x128 (ms o 0 (ms o 1 w)) shapeCasts_S512x128_S512x128 := rfl

/-- The lesser of two merged blocks on the lower pair of devices, the greater on the upper. -/
def halves (c : Dev nD) (x y : FVec F S512x128 .f32) : FVec F S512x128 .f32 :=
  Scalar.select (Scalar.cmpi .slt (me c) 2#32) (minimumf x y) (maximumf x y)

theorem last_a (c : Dev nD) (x y : Vec F S512x128 .f32) : k0_pay67 (me c) x y = fs 8 (halves c x y) := rfl

theorem last_b : k0_pay70 w k0_pay68 k0_pay69 0#32 = fs 6 (fs 7 w) := rfl

theorem last_b' : k0_pay73 w k0_pay68 k0_pay69 0#32 = ahead 5 (k0_pay70 w k0_pay68 k0_pay69 0#32) := rfl

theorem last_b'' : k0_pay74 w k0_pay68 k0_pay69 0#32 = back 5 (k0_pay70 w k0_pay68 k0_pay69 0#32) := rfl

theorem last_d : k0_pay75 w k0_pay71 k0_pay72 (ahead 5 w) (back 5 w) = fs 3 (fs 4 (fs 5 w)) := rfl

theorem last_e : k0_pay76 w (iota .tc S512x128 32 [0] iota_S512x128_d0_w32) = fs 1 (fs 2 w) := rfl

theorem last_z :
    k0_pay79 w (iota .tc S512x128 32 [0] iota_S512x128_d0_w32) k0_pay77 k0_pay78
      = shapeCast S512x128 (fs 0 w) shapeCasts_S512x128_S512x128 := rfl

end Pieces

/-- The local sort: levels one to eight, each of which merges runs of half its length. -/
def sortRows (flip : BitVec 1) : (n : ℕ) → n ≤ 8 → FVec F (rows 256) .f32 → FVec F (rows 256) .f32
  | 0, _, x => x
  | n + 1, h, x => merges (lesserIf 256 flip (n + 1)) (n + 1) (Nat.pow_le_pow_right (n := 2) (by decide) h)
      (sortRows flip n (by omega) x)

/-- The local sort is the eight levels. -/
theorem sortPay_eq (c : Dev nD) (x : Vec F S256x128 .f32) :
    sortPay c x = shapeCast S1x256x128 (sortRows (odd c) 8 (by decide) (shapeCast S256x128 x shapeCasts_S256x128_S256x128))
      shapeCasts_S256x128_S1x256x128 := by
  unfold sortPay
  extract_lets a b d e f f' g g' h h' i j k l o o' p p' q q' r s
  have ha : a = _ := local_a c x
  have hf' : f' = ahead 3 f := local_f' _ _
  have hg : g = ls (odd c) 5 2 (ls (odd c) 5 3 f) :=
    (congrArg (fun u => k0_pay19 (odd c) f k0_pay16 k0_pay17 u) hf').trans (local_g _ _)
  have hg' : g' = partner 1 (by decide) g := local_g' _ _ _
  have hh : h = ls (odd c) 5 0 (ls (odd c) 5 1 g) :=
    (congrArg (fun u => k0_pay23 (odd c) g k0_pay20 k0_pay21 u) hg').trans (local_h _ _)
  have hh' : h' = partner 5 (by decide) h := local_h' _ _ _
  have hi : i = ls (odd c) 6 3 (ls (odd c) 6 4 (ls (odd c) 6 5 h)) :=
    (congrArg (fun u => k0_pay28 (odd c) h u k0_pay26 (k0_pay27 (odd c))) hh').trans (local_i _ _)
  have ho' : o' = ahead 1 o := local_o' _ _
  have hp : p = ls (odd c) 7 0 (ls (odd c) 7 1 o) :=
    (congrArg (fun u => k0_pay41 (odd c) o k0_pay38 k0_pay39 u) ho').trans (local_p _ _)
  have hp' : p' = partner 7 (by decide) p := local_p' _ _ _
  have hq : q = ls (odd c) 8 6 (ls (odd c) 8 7 p) :=
    (congrArg (fun u => k0_pay45 (odd c) p k0_pay42 k0_pay43 u) hp').trans (local_q _ _)
  have hq' : q' = partner 5 (by decide) q := local_q' _ _ _
  have hr : r = ls (odd c) 8 3 (ls (odd c) 8 4 (ls (odd c) 8 5 q)) :=
    (congrArg (fun u => k0_pay50 (odd c) q u k0_pay48 (k0_pay49 (odd c))) hq').trans (local_r _ _)
  rw [local_z, show s = _ from local_s _ _, hr, hq, hp, show o = _ from local_o _ _, show l = _ from local_l _ _,
    show k = _ from local_k _ _, show j = _ from local_j _ _, hi, hh, hg, show f = _ from local_f _ _,
    show e = _ from local_e _ _, show d = _ from local_d _ _, show b = _ from local_b _ _, ha]
  rfl

/-- The pair's merge is its nine stages. -/
theorem mergePay_eq (c : Dev nD) (x : Vec F S2x256x128 .f32) :
    mergePay c x = shapeCast S512x128 (merges (lesserIf 512 (upper c) 11) 9 (by decide)
      (shapeCast S512x128 x shapeCasts_S2x256x128_S512x128)) shapeCasts_S512x128_S512x128 := by
  unfold mergePay
  extract_lets a b d e e'
  have he' : e' = ahead 1 e := pair_e' _ _
  rw [he', pair_z, show e = _ from pair_e _ _, show d = _ from pair_d _ _, show b = _ from pair_b _ _,
    show a = _ from pair_a _ _]
  rfl

/-- The last merge is its comparison of the two blocks and nine stages. -/
theorem finalPay_eq (c : Dev nD) (x y : Vec F S512x128 .f32) :
    finalPay c x y = shapeCast S512x128 (merges (lesser 512 11) 9 (by decide) (halves c x y))
      shapeCasts_S512x128_S512x128 := by
  unfold finalPay
  extract_lets a b b' b'' d e
  have hb' : b' = ahead 5 b := last_b' _
  have hb'' : b'' = back 5 b := last_b'' _
  have hd : d = fs 3 (fs 4 (fs 5 b)) :=
    (congrArg (fun u => k0_pay75 b k0_pay71 k0_pay72 u b'') hb').trans
      ((congrArg (fun u => k0_pay75 b k0_pay71 k0_pay72 (ahead 5 b) u) hb'').trans (last_d _))
  rw [last_z, show e = _ from last_e _, hd, show b = _ from last_b _, show a = _ from last_a _ _ _]
  rfl

end Cert.Exchange
-- ==== Proof.Network.lean ====
/-
# Bitonic sorting networks on a sequence indexed by the naturals

Pure mathematics, no program. A sequence is a function `ℕ → α` into a linear order. One *stage* compares every element
with the one whose index differs in bit `t` and puts the smaller one on the side a direction function names. A *merge*
runs the stages of the bits below `n`. The facts: a merge sorts every aligned block of length `2 ^ n` whose elements
first rise and then fall (or the other way round), and a stage only permutes.

The sortedness facts are proved for sequences of truth values and carried to a linear order through the thresholds
`fun i => a < x i`, because a stage commutes with taking a threshold.
-/
module

public import Idealize.ShloMosaic.Lib.Pipeline.Launch
public import Idealize.ShloMosaic.Lib.Tactic

@[expose] public section

namespace Cert.Network

variable {α : Type*}

/-- Index `i` is the lower one of its pair at distance `2 ^ t`. -/
def Low (t i : ℕ) : Prop := i / 2 ^ t % 2 = 0

instance (t i : ℕ) : Decidable (Low t i) := by unfold Low; infer_instance

/-- The index paired with `i` at distance `2 ^ t`. -/
def mate (t i : ℕ) : ℕ := if Low t i then i + 2 ^ t else i - 2 ^ t

/-- One stage: index `i` keeps the smaller of its pair exactly when being the lower index agrees with its direction. -/
def stage [Lattice α] (t : ℕ) (up : ℕ → Bool) (x : ℕ → α) (i : ℕ) : α :=
  if up i = decide (Low t i) then x i ⊓ x (mate t i) else x i ⊔ x (mate t i)

/-- The stages of the bits below `n`, the highest first. -/
def merge [Lattice α] : (n : ℕ) → (up : ℕ → Bool) → (ℕ → α) → ℕ → α
  | 0, _, x => x
  | n + 1, up, x => merge n up (stage n up x)

/-- A stage commutes with taking a threshold. -/
theorem stage_lt [LinearOrder α] (t : ℕ) (up : ℕ → Bool) (x : ℕ → α) (a : α) :
    (fun i => a < stage t up x i) = stage t up (fun i => a < x i) := by
  funext i
  unfold stage
  split
  · exact propext lt_inf_iff
  · exact propext lt_sup_iff

/-- So does a merge. -/
theorem merge_lt [LinearOrder α] (n : ℕ) (up : ℕ → Bool) (x : ℕ → α) (a : α) :
    (fun i => a < merge n up x i) = merge n up (fun i => a < x i) := by
  induction n generalizing x with
  | zero => rfl
  | succ n ih => show (fun i => a < merge n up (stage n up x) i) = _; rw [ih, stage_lt]; rfl

/-! ## Truth-value sequences on a block -/

/-- On the block of `n` indices from `b` the sequence is false up to a point and true after it. -/
def Rise (x : ℕ → Prop) (b n : ℕ) : Prop := ∃ p ≤ n, ∀ i < n, (x (b + i) ↔ p ≤ i)

/-- On the block it is true up to a point and false after it. -/
def Fall (x : ℕ → Prop) (b n : ℕ) : Prop := ∃ p ≤ n, ∀ i < n, (x (b + i) ↔ i < p)

/-- On the block it is true exactly between two points, or false exactly between two points. -/
def Hump (x : ℕ → Prop) (b n : ℕ) : Prop :=
  ∃ p q, p ≤ q ∧ q ≤ n ∧ ((∀ i < n, (x (b + i) ↔ (p ≤ i ∧ i < q))) ∨ (∀ i < n, (x (b + i) ↔ ¬ (p ≤ i ∧ i < q))))

/-- Sorted on the block, in the given direction. -/
def Sorted (x : ℕ → Prop) (d : Bool) (b n : ℕ) : Prop := if d then Rise x b n else Fall x b n

theorem low_first {t b i : ℕ} (hb : 2 ^ (t + 1) ∣ b) (hi : i < 2 ^ t) : Low t (b + i) := by
  obtain ⟨q, rfl⟩ := hb
  unfold Low
  rw [pow_succ, mul_assoc, Nat.mul_add_div (Nat.two_pow_pos _), Nat.div_eq_of_lt hi]; omega

theorem low_second {t b i : ℕ} (hb : 2 ^ (t + 1) ∣ b) (hi : i < 2 ^ t) : ¬ Low t (b + (2 ^ t + i)) := by
  obtain ⟨q, rfl⟩ := hb
  unfold Low
  rw [pow_succ, mul_assoc, Nat.mul_add_div (Nat.two_pow_pos _), Nat.add_div_left _ (Nat.two_pow_pos _), Nat.div_eq_of_lt hi]; omega

/-- A stage's value at an index of the first half of a block. -/
theorem stage_first [Lattice α] {t b i : ℕ} (up : ℕ → Bool) (x : ℕ → α) (hb : 2 ^ (t + 1) ∣ b) (hi : i < 2 ^ t) :
    stage t up x (b + i) = if up (b + i) then x (b + i) ⊓ x (b + (2 ^ t + i)) else x (b + i) ⊔ x (b + (2 ^ t + i)) := by
  have hl := low_first hb hi
  have hm : mate t (b + i) = b + (2 ^ t + i) := by unfold mate; rw [if_pos hl]; omega
  unfold stage; rw [hm, decide_eq_true hl]

/-- A stage's value at an index of the second half of a block. -/
theorem stage_second [Lattice α] {t b i : ℕ} (up : ℕ → Bool) (x : ℕ → α) (hb : 2 ^ (t + 1) ∣ b) (hi : i < 2 ^ t) :
    stage t up x (b + (2 ^ t + i))
      = if up (b + (2 ^ t + i)) then x (b + i) ⊔ x (b + (2 ^ t + i)) else x (b + i) ⊓ x (b + (2 ^ t + i)) := by
  have hl := low_second hb hi
  have hm : mate t (b + (2 ^ t + i)) = b + i := by unfold mate; rw [if_neg hl]; omega
  unfold stage; rw [hm, decide_eq_false hl]
  cases up (b + (2 ^ t + i))
  · rw [if_pos rfl, if_neg Bool.false_ne_true, inf_comm]
  · rw [if_neg (by decide), if_pos rfl, sup_comm]

/-- A merge keeps a block on which the sequence is constant. -/
theorem merge_const (n : ℕ) (up : ℕ → Bool) (x : ℕ → Prop) (v : Prop) {b : ℕ} (hb : 2 ^ n ∣ b)
    (h : ∀ i < 2 ^ n, (x (b + i) ↔ v)) : ∀ i < 2 ^ n, (merge n up x (b + i) ↔ v) := by
  induction n generalizing x b with
  | zero => exact h
  | succ n ih =>
    have hp : 2 ^ (n + 1) = 2 ^ n + 2 ^ n := by rw [pow_succ]; omega
    have hb' : 2 ^ n ∣ b := (pow_dvd_pow 2 (Nat.le_succ n)).trans hb
    have h1 : ∀ i < 2 ^ n, (merge n up (stage n up x) (b + i) ↔ v) := ih _ hb' fun i hi => by
      rw [stage_first up x hb hi]
      have := h i (by omega); have := h (2 ^ n + i) (by omega)
      split <;> simp only [inf_Prop_eq, sup_Prop_eq] <;> tauto
    have h2 : ∀ i < 2 ^ n, (merge n up (stage n up x) (b + 2 ^ n + i) ↔ v) := ih _ (hb'.add dvd_rfl) fun i hi => by
      rw [Nat.add_assoc, stage_second up x hb hi]
      have := h i (by omega); have := h (2 ^ n + i) (by omega)
      split <;> simp only [inf_Prop_eq, sup_Prop_eq] <;> tauto
    intro i hi
    by_cases hlt : i < 2 ^ n
    · exact h1 i hlt
    · have := h2 (i - 2 ^ n) (by omega)
      rwa [show b + 2 ^ n + (i - 2 ^ n) = b + i by omega] at this

/-- The elementwise conjunction and disjunction of a hump's two halves: either no conjunction holds and the disjunction is a
    hump, or every disjunction holds and the conjunction is a hump. -/
theorem hump_halves {x : ℕ → Prop} {b h : ℕ} (hx : Hump x b (h + h)) :
    ((∀ i < h, ¬ (x (b + i) ∧ x (b + (h + i)))) ∧ Hump (fun i => x i ∨ x (i + h)) b h) ∨
    ((∀ i < h, x (b + i) ∨ x (b + (h + i))) ∧ Hump (fun i => x i ∧ x (i + h)) b h) := by
  have key : ∀ i, b + i + h = b + (h + i) := fun i => by omega
  obtain ⟨p, q, hpq, hq, hx | hx⟩ := hx
  · have a1 : ∀ i < h, (x (b + i) ↔ (p ≤ i ∧ i < q)) := fun i hi => hx i (by omega)
    have a2 : ∀ i < h, (x (b + (h + i)) ↔ (p ≤ h + i ∧ h + i < q)) := fun i hi => hx (h + i) (by omega)
    by_cases c1 : q ≤ h
    · left; refine ⟨fun i hi => by rw [a1 i hi, a2 i hi]; omega, p, q, hpq, c1, .inl fun i hi => ?_⟩
      dsimp only; rw [key, a1 i hi, a2 i hi]; omega
    · by_cases c2 : h ≤ p
      · left; refine ⟨fun i hi => by rw [a1 i hi, a2 i hi]; omega, p - h, q - h, by omega, by omega, .inl fun i hi => ?_⟩
        dsimp only; rw [key, a1 i hi, a2 i hi]; omega
      · by_cases c3 : q - h ≤ p
        · left; refine ⟨fun i hi => by rw [a1 i hi, a2 i hi]; omega, q - h, p, by omega, by omega, .inr fun i hi => ?_⟩
          dsimp only; rw [key, a1 i hi, a2 i hi]; omega
        · right; refine ⟨fun i hi => by rw [a1 i hi, a2 i hi]; omega, p, q - h, by omega, by omega, .inl fun i hi => ?_⟩
          dsimp only; rw [key, a1 i hi, a2 i hi]; omega
  · have a1 : ∀ i < h, (x (b + i) ↔ ¬ (p ≤ i ∧ i < q)) := fun i hi => hx i (by omega)
    have a2 : ∀ i < h, (x (b + (h + i)) ↔ ¬ (p ≤ h + i ∧ h + i < q)) := fun i hi => hx (h + i) (by omega)
    by_cases c1 : q ≤ h
    · right; refine ⟨fun i hi => by rw [a1 i hi, a2 i hi]; omega, p, q, hpq, c1, .inr fun i hi => ?_⟩
      dsimp only; rw [key, a1 i hi, a2 i hi]; omega
    · by_cases c2 : h ≤ p
      · right; refine ⟨fun i hi => by rw [a1 i hi, a2 i hi]; omega, p - h, q - h, by omega, by omega, .inr fun i hi => ?_⟩
        dsimp only; rw [key, a1 i hi, a2 i hi]; omega
      · by_cases c3 : q - h ≤ p
        · right; refine ⟨fun i hi => by rw [a1 i hi, a2 i hi]; omega, q - h, p, by omega, by omega, .inl fun i hi => ?_⟩
          dsimp only; rw [key, a1 i hi, a2 i hi]; omega
        · left; refine ⟨fun i hi => by rw [a1 i hi, a2 i hi]; omega, p, q - h, by omega, by omega, .inr fun i hi => ?_⟩
          dsimp only; rw [key, a1 i hi, a2 i hi]; omega

theorem hump_congr {x y : ℕ → Prop} {b b' n : ℕ} (h : ∀ i < n, (x (b + i) ↔ y (b' + i))) (hy : Hump y b' n) : Hump x b n := by
  obtain ⟨p, q, hpq, hq, hy | hy⟩ := hy
  · exact ⟨p, q, hpq, hq, .inl fun i hi => (h i hi).trans (hy i hi)⟩
  · exact ⟨p, q, hpq, hq, .inr fun i hi => (h i hi).trans (hy i hi)⟩

theorem sorted_of_rise {x : ℕ → Prop} {b n : ℕ} (h : Rise x b n) : Sorted x true b n := h
theorem sorted_of_fall {x : ℕ → Prop} {b n : ℕ} (h : Fall x b n) : Sorted x false b n := h

/-- A sorted half joined with a constant half on the side its direction allows is sorted. -/
theorem sorted_join {x : ℕ → Prop} {d : Bool} {b h : ℕ}
    (H : ((∀ i < h, (x (b + i) ↔ d = false)) ∧ Sorted x d (b + h) h) ∨ (Sorted x d b h ∧ ∀ i < h, (x (b + h + i) ↔ d = true))) :
    Sorted x d b (h + h) := by
  have key : ∀ i, ¬ i < h → b + h + (i - h) = b + i := fun i hi => by omega
  cases d
  · show Fall x b (h + h)
    rcases H with ⟨h1, p, hp, h2⟩ | ⟨⟨p, hp, h1⟩, h2⟩
    · refine ⟨h + p, by omega, fun i hi => ?_⟩
      by_cases c : i < h
      · rw [h1 i c]; simp; omega
      · rw [← key i c, h2 _ (by omega)]; omega
    · refine ⟨p, by omega, fun i hi => ?_⟩
      by_cases c : i < h
      · exact h1 i c
      · rw [← key i c, h2 _ (by omega)]; simp; omega
  · show Rise x b (h + h)
    rcases H with ⟨h1, p, hp, h2⟩ | ⟨⟨p, hp, h1⟩, h2⟩
    · refine ⟨h + p, by omega, fun i hi => ?_⟩
      by_cases c : i < h
      · rw [h1 i c]; simp; omega
      · rw [← key i c, h2 _ (by omega)]; omega
    · refine ⟨p, by omega, fun i hi => ?_⟩
      by_cases c : i < h
      · exact h1 i c
      · rw [← key i c, h2 _ (by omega)]; simp; omega

/-- A merge sorts an aligned block holding a hump, in the direction the block has. -/
theorem merge_sorted (n : ℕ) (up : ℕ → Bool) (d : Bool) (x : ℕ → Prop) {b : ℕ} (hb : 2 ^ n ∣ b)
    (hup : ∀ i < 2 ^ n, up (b + i) = d) (hx : Hump x b (2 ^ n)) : Sorted (merge n up x) d b (2 ^ n) := by
  induction n generalizing x b with
  | zero =>
    have h0 : ∀ i, i < 2 ^ 0 → i = 0 := fun i hi => by rw [pow_zero] at hi; omega
    by_cases hx : x b
    · cases d
      · exact ⟨1, le_refl _, fun i hi => by obtain rfl := h0 i hi; exact ⟨fun _ => Nat.one_pos, fun _ => hx⟩⟩
      · exact ⟨0, Nat.zero_le _, fun i hi => by obtain rfl := h0 i hi; exact ⟨fun _ => le_refl _, fun _ => hx⟩⟩
    · cases d
      · exact ⟨0, Nat.zero_le _, fun i hi => by obtain rfl := h0 i hi; exact ⟨fun h => absurd h hx, fun h => absurd h (Nat.lt_irrefl 0)⟩⟩
      · exact ⟨1, le_refl _, fun i hi => by obtain rfl := h0 i hi; exact ⟨fun h => absurd h hx, fun h => absurd h (by omega)⟩⟩
  | succ n ih =>
    have hp : 2 ^ (n + 1) = 2 ^ n + 2 ^ n := by rw [pow_succ]; omega
    have hb1 : 2 ^ n ∣ b := (pow_dvd_pow 2 (Nat.le_succ n)).trans hb
    have hb2 : 2 ^ n ∣ b + 2 ^ n := hb1.add dvd_rfl
    have u1 : ∀ i < 2 ^ n, up (b + i) = d := fun i hi => hup i (by omega)
    have u2 : ∀ i < 2 ^ n, up (b + 2 ^ n + i) = d := fun i hi => by rw [Nat.add_assoc]; exact hup _ (by omega)
    have s1 : ∀ i < 2 ^ n, stage n up x (b + i) = if d then x (b + i) ⊓ x (b + (2 ^ n + i)) else x (b + i) ⊔ x (b + (2 ^ n + i)) :=
      fun i hi => by rw [stage_first up x hb hi, u1 i hi]
    have s2 : ∀ i < 2 ^ n, stage n up x (b + 2 ^ n + i) = if d then x (b + i) ⊔ x (b + (2 ^ n + i)) else x (b + i) ⊓ x (b + (2 ^ n + i)) :=
      fun i hi => by rw [Nat.add_assoc, stage_second up x hb hi, hup _ (by omega)]
    have key : ∀ i, b + i + 2 ^ n = b + (2 ^ n + i) := fun i => by omega
    rw [hp] at hx
    show Sorted (merge n up (stage n up x)) d b (2 ^ (n + 1))
    rw [hp]
    rcases hump_halves hx with ⟨hc, hh⟩ | ⟨hc, hh⟩
    · cases d
      · refine sorted_join (.inr ⟨ih _ hb1 u1 (hump_congr (fun i hi => ?_) hh), merge_const n up _ _ hb2 fun i hi => ?_⟩)
        · rw [s1 i hi, key]; rfl
        · rw [s2 i hi]; simpa using hc i hi
      · refine sorted_join (.inl ⟨merge_const n up _ _ hb1 fun i hi => ?_, ih _ hb2 u2 (hump_congr (b' := b) (fun i hi => ?_) hh)⟩)
        · rw [s1 i hi]; simpa using hc i hi
        · rw [s2 i hi, key]; rfl
    · cases d
      · refine sorted_join (.inl ⟨merge_const n up _ _ hb1 fun i hi => ?_, ih _ hb2 u2 (hump_congr (b' := b) (fun i hi => ?_) hh)⟩)
        · rw [s1 i hi]; simpa using hc i hi
        · rw [s2 i hi, key]; rfl
      · refine sorted_join (.inr ⟨ih _ hb1 u1 (hump_congr (fun i hi => ?_) hh), merge_const n up _ _ hb2 fun i hi => ?_⟩)
        · rw [s1 i hi, key]; rfl
        · rw [s2 i hi]; simpa using hc i hi

/-- Two neighbouring halves sorted in opposite directions make a hump. -/
theorem hump_of_sorted {x : ℕ → Prop} {d : Bool} {b h : ℕ} (h1 : Sorted x d b h) (h2 : Sorted x (!d) (b + h) h) :
    Hump x b (h + h) := by
  have key : ∀ i, ¬ i < h → b + h + (i - h) = b + i := fun i hi => by omega
  cases d
  · obtain ⟨p, hp, h1⟩ := h1; obtain ⟨q, hq, h2⟩ := h2
    refine ⟨p, h + q, by omega, by omega, .inr fun i hi => ?_⟩
    by_cases c : i < h
    · rw [h1 i c]; omega
    · rw [← key i c, h2 _ (by omega)]; omega
  · obtain ⟨p, hp, h1⟩ := h1; obtain ⟨q, hq, h2⟩ := h2
    refine ⟨p, h + q, by omega, by omega, .inl fun i hi => ?_⟩
    by_cases c : i < h
    · rw [h1 i c]; omega
    · rw [← key i c, h2 _ (by omega)]; omega

/-- Every aligned block of length `2 ^ n` is sorted in the direction its first index has. -/
def Blocks (x : ℕ → Prop) (up : ℕ → Bool) (n : ℕ) : Prop := ∀ b, 2 ^ n ∣ b → Sorted x (up b) b (2 ^ n)

theorem hump_one (x : ℕ → Prop) (b : ℕ) : Hump x b 1 := by
  by_cases hx : x b
  · exact ⟨0, 1, by omega, le_refl _, .inl fun i hi => by
      obtain rfl : i = 0 := by omega
      exact ⟨fun _ => ⟨le_refl _, Nat.one_pos⟩, fun _ => hx⟩⟩
  · exact ⟨0, 0, le_refl _, by omega, .inl fun i hi => by
      obtain rfl : i = 0 := by omega
      exact ⟨fun h => absurd h hx, fun h => absurd h.2 (Nat.lt_irrefl 0)⟩⟩

/-- Blocks of one element are sorted. -/
theorem blocks_zero (x : ℕ → Prop) (up : ℕ → Bool) : Blocks x up 0 := fun b hb =>
  merge_sorted 0 (fun _ => up b) (up b) x hb (fun _ _ => rfl) (hump_one x b)

/-- One level of the sort: blocks of length `2 ^ n` sorted in alternating directions become blocks of twice the length. -/
theorem blocks_succ {n : ℕ} {x : ℕ → Prop} {up up' : ℕ → Bool} (hx : Blocks x up n)
    (halt : ∀ b, 2 ^ (n + 1) ∣ b → up (b + 2 ^ n) = !up b) (hconst : ∀ b, 2 ^ (n + 1) ∣ b → ∀ i < 2 ^ (n + 1), up' (b + i) = up' b) :
    Blocks (merge (n + 1) up' x) up' (n + 1) := fun b hb =>
  merge_sorted (n + 1) up' (up' b) x hb (hconst b hb) (by
    have hb1 : 2 ^ n ∣ b := (pow_dvd_pow 2 (Nat.le_succ n)).trans hb
    rw [show 2 ^ (n + 1) = 2 ^ n + 2 ^ n by rw [pow_succ]; omega]
    refine hump_of_sorted (hx b hb1) ?_
    rw [← halt b hb]; exact hx _ (hb1.add dvd_rfl))

/-! ## A stage keeps the number of true values -/

open Classical in
/-- How many of the `n` values from `b` on are true. -/
noncomputable def count (x : ℕ → Prop) (b n : ℕ) : ℕ := ∑ i ∈ Finset.range n, if x (b + i) then 1 else 0

theorem count_add (x : ℕ → Prop) (b n k : ℕ) : count x b (n + k) = count x b n + count x (b + n) k := by
  unfold count
  rw [Finset.sum_range_add, Nat.add_left_cancel_iff]
  exact Finset.sum_congr rfl fun i _ => by rw [Nat.add_assoc]

theorem count_stage_block {t b : ℕ} (up : ℕ → Bool) (x : ℕ → Prop) (hb : 2 ^ (t + 1) ∣ b)
    (hup : ∀ i < 2 ^ t, up (b + (2 ^ t + i)) = up (b + i)) :
    count (stage t up x) b (2 ^ (t + 1)) = count x b (2 ^ (t + 1)) := by
  have hp : 2 ^ (t + 1) = 2 ^ t + 2 ^ t := by rw [pow_succ]; omega
  rw [hp, count_add, count_add]
  unfold count
  rw [← Finset.sum_add_distrib, ← Finset.sum_add_distrib]
  refine Finset.sum_congr rfl fun i hi => ?_
  have hi := Finset.mem_range.mp hi
  rw [Nat.add_assoc, stage_first up x hb hi, stage_second up x hb hi, hup i hi]
  by_cases h1 : x (b + i) <;> by_cases h2 : x (b + (2 ^ t + i)) <;> cases up (b + i) <;> simp [h1, h2]

theorem count_stage {t m : ℕ} (up : ℕ → Bool) (x : ℕ → Prop) (hm : 2 ^ (t + 1) ∣ m)
    (hup : ∀ b, 2 ^ (t + 1) ∣ b → ∀ i < 2 ^ t, up (b + (2 ^ t + i)) = up (b + i)) :
    count (stage t up x) 0 m = count x 0 m := by
  obtain ⟨q, rfl⟩ := hm
  induction q with
  | zero => rfl
  | succ q ih =>
    rw [Nat.mul_succ, count_add, count_add, ih, Nat.zero_add, count_stage_block up x (Dvd.intro _ rfl) (hup _ (Dvd.intro _ rfl))]

/-- A merge keeps how many of the first `m` values are true, `m` a multiple of the block. -/
theorem count_merge {n m : ℕ} (up : ℕ → Bool) (x : ℕ → Prop) (hm : 2 ^ n ∣ m)
    (hup : ∀ b, 2 ^ n ∣ b → ∀ i < 2 ^ n, up (b + i) = up b) : count (merge n up x) 0 m = count x 0 m := by
  induction n generalizing x with
  | zero => rfl
  | succ n ih =>
    have hp : 2 ^ (n + 1) = 2 ^ n + 2 ^ n := by rw [pow_succ]; omega
    show count (merge n up (stage n up x)) 0 m = _
    rw [ih (stage n up x) ((pow_dvd_pow 2 (Nat.le_succ n)).trans hm) fun b hb i hi => ?_,
      count_stage up x hm fun b hb i hi => by rw [hup b hb _ (by omega), hup b hb _ (by omega)]]
    obtain ⟨q, rfl⟩ := hb
    have e : ∀ j, j < 2 ^ n → up (2 ^ n * q + j) = up (2 ^ (n + 1) * (q / 2)) := fun j hj => by
      have h2 := Nat.div_add_mod q 2
      rcases Nat.mod_two_eq_zero_or_one q with hq | hq
      · rw [show 2 ^ n * q + j = 2 ^ (n + 1) * (q / 2) + j by
          conv_lhs => rw [← h2, hq]
          rw [pow_succ, mul_assoc, Nat.add_zero]]
        exact hup _ (Dvd.intro _ rfl) _ (by omega)
      · rw [show 2 ^ n * q + j = 2 ^ (n + 1) * (q / 2) + (2 ^ n + j) by
          conv_lhs => rw [← h2, hq]
          rw [pow_succ, mul_assoc, Nat.mul_add, Nat.mul_one, Nat.add_assoc]]
        exact hup _ (Dvd.intro _ rfl) _ (by omega)
    rw [e i hi, ← e 0 (Nat.two_pow_pos n)]; rfl

/-- A rising sequence's point is where its number of true values says. -/
theorem count_rise {x : ℕ → Prop} {n p : ℕ} (hp : p ≤ n) (h : ∀ i < n, (x (0 + i) ↔ p ≤ i)) : count x 0 n = n - p := by
  obtain ⟨k, rfl⟩ := Nat.exists_eq_add_of_le hp
  rw [count_add]
  have h1 : count x 0 p = 0 := Finset.sum_eq_zero fun i hi => by
    have := Finset.mem_range.mp hi
    rw [if_neg]; rw [h i (by omega)]; omega
  have h2 : count x (0 + p) k = k := by
    unfold count
    rw [Finset.sum_congr rfl fun i hi => (if_pos ?_ : _ = 1), Finset.sum_const, Finset.card_range, smul_eq_mul, Nat.mul_one]
    have := Finset.mem_range.mp hi
    rw [Nat.add_assoc, h _ (by omega)]; omega
  rw [h1, h2]; omega

/-- Two sequences in a linear order whose thresholds all rise on the first `n` indices and have the same numbers of true
    values there agree on those indices: there is one sorted arrangement. -/
theorem rise_unique [LinearOrder α] {x y : ℕ → α} {n : ℕ} (hx : ∀ a, Rise (fun i => a < x i) 0 n)
    (hy : ∀ a, Rise (fun i => a < y i) 0 n) (hc : ∀ a, count (fun i => a < x i) 0 n = count (fun i => a < y i) 0 n) :
    ∀ i < n, x i = y i := by
  have key : ∀ a, ∀ i < n, (a < x i ↔ a < y i) := fun a i hi => by
    obtain ⟨p, hp, h1⟩ := hx a
    obtain ⟨q, hq, h2⟩ := hy a
    have e : p = q := by
      have := hc a
      rw [count_rise hp h1, count_rise hq h2] at this; omega
    have g1 := h1 i hi; have g2 := h2 i hi
    rw [Nat.zero_add] at g1 g2
    exact g1.trans (by rw [e]; exact g2.symm)
  exact fun i hi => le_antisymm (not_lt.mp fun h => lt_irrefl _ ((key _ i hi).mp h)) (not_lt.mp fun h => lt_irrefl _ ((key _ i hi).mpr h))

/-- A sequence that never decreases has rising thresholds. -/
theorem rise_of_mono [LinearOrder α] {x : ℕ → α} {n : ℕ} (hx : ∀ i j, i ≤ j → j < n → x i ≤ x j) (a : α) :
    Rise (fun i => a < x i) 0 n := by
  classical
  by_cases h : ∃ i, i < n ∧ a < x i
  · refine ⟨Nat.find h, (Nat.find_spec h).1.le, fun i hi => ?_⟩
    dsimp only; rw [Nat.zero_add]
    exact ⟨fun h' => Nat.find_min' h ⟨hi, h'⟩, fun h' => lt_of_lt_of_le (Nat.find_spec h).2 (hx _ _ h' hi)⟩
  · refine ⟨n, le_refl _, fun i hi => ?_⟩
    dsimp only; rw [Nat.zero_add]
    exact ⟨fun h' => absurd ⟨i, hi, h'⟩ h, fun h' => absurd h' (by omega)⟩

/-! ## The network of this kernel: 1024 elements, four runs of 256 -/

/-- The direction at level `j` of the sort of a run of 256: bit `j` of the index inside the run, turned over on every
    second run. -/
def dirRun (j i : ℕ) : Bool := decide (i % 256 / 2 ^ j % 2 = 0) == decide (i / 256 % 2 = 0)

/-- Rising on every first half of 1024, falling on every second. -/
def dirHalf (i : ℕ) : Bool := decide (i / 512 % 2 = 0)

/-- The merges of the levels `1` to `n` of a sort. -/
def levels [Lattice α] : (n : ℕ) → (ℕ → ℕ → Bool) → (ℕ → α) → ℕ → α
  | 0, _, x => x
  | n + 1, dir, x => merge (n + 1) (dir (n + 1)) (levels n dir x)

/-- The kernel's network: runs of 256 sorted in alternating directions, pairs of runs merged in alternating directions, the
    two halves merged. -/
def network [Lattice α] (x : ℕ → α) : ℕ → α := merge 10 (fun _ => true) (merge 9 dirHalf (levels 8 dirRun x))

theorem levels_lt [LinearOrder α] (n : ℕ) (dir : ℕ → ℕ → Bool) (x : ℕ → α) (a : α) :
    (fun i => a < levels n dir x i) = levels n dir (fun i => a < x i) := by
  induction n with
  | zero => rfl
  | succ n ih => show (fun i => a < merge (n + 1) (dir (n + 1)) (levels n dir x) i) = _; rw [merge_lt, ih]; rfl

theorem network_lt [LinearOrder α] (x : ℕ → α) (a : α) : (fun i => a < network x i) = network (fun i => a < x i) := by
  unfold network; rw [merge_lt, merge_lt, levels_lt]

theorem dirRun_iff (j i : ℕ) : dirRun j i = true ↔ (i % 256 / 2 ^ j % 2 = 0 ↔ i / 256 % 2 = 0) := by
  unfold dirRun; rw [beq_iff_eq, decide_eq_decide]

theorem dirHalf_iff (i : ℕ) : dirHalf i = true ↔ i / 512 % 2 = 0 := by
  unfold dirHalf; rw [decide_eq_true_iff]

/-- Below level 8 neighbouring blocks have opposite directions. -/
theorem dirRun_alt {n : ℕ} (hn : n < 8) : ∀ b, 2 ^ (n + 1) ∣ b → dirRun n (b + 2 ^ n) = !dirRun n b := fun b ⟨q, hq⟩ => by
  rw [Bool.eq_iff_iff, Bool.not_eq_true', ← Bool.not_eq_true, dirRun_iff, dirRun_iff]
  have h : n = 0 ∨ n = 1 ∨ n = 2 ∨ n = 3 ∨ n = 4 ∨ n = 5 ∨ n = 6 ∨ n = 7 := by omega
  rcases h with rfl | rfl | rfl | rfl | rfl | rfl | rfl | rfl <;> omega

/-- Up to level 8 a block has one direction. -/
theorem dirRun_const {n : ℕ} (hn : n ≤ 8) : ∀ b, 2 ^ n ∣ b → ∀ i < 2 ^ n, dirRun n (b + i) = dirRun n b := fun b ⟨q, hq⟩ i hi => by
  rw [Bool.eq_iff_iff, dirRun_iff, dirRun_iff]
  have h : n = 0 ∨ n = 1 ∨ n = 2 ∨ n = 3 ∨ n = 4 ∨ n = 5 ∨ n = 6 ∨ n = 7 ∨ n = 8 := by omega
  rcases h with rfl | rfl | rfl | rfl | rfl | rfl | rfl | rfl | rfl <;> omega

theorem dirHalf_const : ∀ b, 2 ^ 9 ∣ b → ∀ i < 2 ^ 9, dirHalf (b + i) = dirHalf b := fun b ⟨q, hq⟩ i hi => by
  rw [Bool.eq_iff_iff, dirHalf_iff, dirHalf_iff]; omega

theorem levels_blocks {n : ℕ} (hn : n ≤ 8) (x : ℕ → Prop) : Blocks (levels n dirRun x) (dirRun n) n := by
  induction n with
  | zero => exact blocks_zero x _
  | succ n ih => exact blocks_succ (ih (by omega)) (dirRun_alt (by omega)) (dirRun_const hn)

theorem count_levels {n : ℕ} (hn : n ≤ 8) (x : ℕ → Prop) : count (levels n dirRun x) 0 1024 = count x 0 1024 := by
  induction n with
  | zero => rfl
  | succ n ih =>
    show count (merge (n + 1) (dirRun (n + 1)) (levels n dirRun x)) 0 1024 = _
    rw [count_merge _ _ ((pow_dvd_pow 2 (show n + 1 ≤ 10 by omega)).trans (by decide)) (dirRun_const hn), ih (by omega)]

/-- The network's result rises over the 1024 indices, at every threshold. -/
theorem network_rise [LinearOrder α] (x : ℕ → α) (a : α) : Rise (fun i => a < network x i) 0 1024 := by
  rw [network_lt]
  have h8 := levels_blocks (le_refl 8) (fun i => a < x i)
  have h9 := blocks_succ (up' := dirHalf) h8 (fun b ⟨q, hq⟩ => by
      rw [Bool.eq_iff_iff, Bool.not_eq_true', ← Bool.not_eq_true, dirRun_iff, dirRun_iff]; omega)
    dirHalf_const
  have h10 := blocks_succ (up' := fun _ => true) h9 (fun b ⟨q, hq⟩ => by
      rw [Bool.eq_iff_iff, Bool.not_eq_true', ← Bool.not_eq_true, dirHalf_iff, dirHalf_iff]; omega)
    (fun _ _ _ _ => rfl)
  exact h10 0 (Dvd.intro 0 rfl)

/-- The network's result has as many values above a threshold as its argument. -/
theorem network_count [LinearOrder α] (x : ℕ → α) (a : α) :
    count (fun i => a < network x i) 0 1024 = count (fun i => a < x i) 0 1024 := by
  rw [network_lt]
  unfold network
  rw [count_merge _ _ (by decide) (fun _ _ _ _ => rfl), count_merge _ _ (by decide) dirHalf_const, count_levels (le_refl 8)]

end Cert.Network

end
-- ==== Proof.Columns.lean ====
/-
# A column of the computed values is the network on a column of its operand

Over the extended reals, and in one lane `j`, the rows of a vector are a part of one long sequence (`Holds`).
A printed compare-exchange stage takes that sequence to the network's stage of it.
-/
module

public import proofs.«01_k».proof.Proof.Stages
public import proofs.«01_k».proof.Proof.Network
public import Idealize.ShloMosaic.PureOps.Ideal
public import Idealize.ShloMosaic.Lib.Pipeline.Value
public import Idealize.ShloMosaic.Lib.ValueIdxCore

@[expose] public section

noncomputable section

namespace Cert.Exchange

open Cert.Network
open Idealize.ShloMosaic Idealize.ShloMosaic.ValueIdx

/-- Lane `j` of `v` is the sequence `X` from index `b` on. -/
def Holds {m : ℕ} (b : ℕ) (j : Fin 128) (v : FVec Ideal (rows m) .f32) (X : ℕ → EReal) : Prop :=
  ∀ i : Fin m, v (ix2 i j) = X (b + i.val)

/-- Row `i` passes the mask of bit `t` exactly when the bit is clear. -/
theorem clear_apply {m t : ℕ} (hm : m ≤ 2 ^ 31) (ht : t < 32) (i : Fin m) (j : Fin 128) :
    clear m t (ix2 i j) = BitVec.ofBool (decide (Low t i.val)) := by
  show BitVec.ofBool ((BitVec.ofNat 32 (0 * m + i.val) &&& BitVec.ofNat 32 (2 ^ t)) == 0#32) = _
  congr 1
  rw [show BitVec.ofNat 32 (2 ^ t) = BitVec.twoPow 32 t from BitVec.eq_of_toNat_eq (by simp), BitVec.and_twoPow, Nat.zero_mul,
    Nat.zero_add, BitVec.getLsbD_ofNat, Nat.testBit_eq_decide_div_mod_eq]
  have hz : BitVec.twoPow 32 t ≠ 0#32 := fun h => by
    have := congrArg (fun b => b.getLsbD t) h
    simp [ht] at this
  unfold Low
  by_cases h : i.val / 2 ^ t % 2 = 1
  · simp [h, ht, hz]
  · have h0 : i.val / 2 ^ t % 2 = 0 := by omega
    simp [h0, ht]

/-- A turned vector's rows before the last `p`. -/
theorem turn_low {m p q : ℕ} (h : p + q = m) (x : FVec Ideal (rows m) .f32) (i k : Fin m) (j : Fin 128) (hi : i.val < q)
    (hk : k.val = p + i.val) : turn p q h x (ix2 i j) = x (ix2 k j) := by
  unfold turn
  refine (concatenate_pair_apply_left (t := rows m) (s₁ := rows q) (s₂ := rows p) 0 _ _ _ (ix2 i j) rfl (ix2 ⟨i.val, hi⟩ j)
    (fun b => by match b with | ⟨0, _⟩ => rfl | ⟨1, _⟩ => rfl)).trans ?_
  refine extractStridedSlice_apply _ _ _ _ _ fun a => ?_
  match a with
  | ⟨0, _⟩ => exact hk
  | ⟨1, _⟩ => exact (Nat.zero_add _).symm

/-- A turned vector's last `p` rows. -/
theorem turn_high {m p q : ℕ} (h : p + q = m) (x : FVec Ideal (rows m) .f32) (i k : Fin m) (j : Fin 128)
    (hk : k.val + q = i.val) : turn p q h x (ix2 i j) = x (ix2 k j) := by
  unfold turn
  have hp : k.val < p := by have := i.isLt; omega
  refine (concatenate_pair_apply_right (t := rows m) (s₁ := rows q) (s₂ := rows p) 0 _ _ _ (ix2 i j) rfl rfl
    (ix2 ⟨k.val, hp⟩ j)
    (fun b hb => by match b, hb with | ⟨0, _⟩, hb => exact absurd rfl hb | ⟨1, _⟩, _ => rfl) hk).trans ?_
  refine extractStridedSlice_apply _ _ _ _ _ fun a => ?_
  match a with
  | ⟨0, _⟩ => exact (Nat.zero_add _).symm
  | ⟨1, _⟩ => exact (Nat.zero_add _).symm

/-- Being the lower of a pair does not depend on where the block starts. -/
theorem low_add {t b : ℕ} (hb : 2 ^ (t + 1) ∣ b) (i : ℕ) : Low t (b + i) ↔ Low t i := by
  obtain ⟨q, rfl⟩ := hb
  unfold Low
  rw [Nat.pow_succ, Nat.mul_assoc, Nat.mul_add_div (Nat.two_pow_pos t), Nat.mul_add_mod]

/-- In a block of whole pairs the lower row's partner is in the block too. -/
theorem ahead_lt {m t i : ℕ} (hd : 2 ^ (t + 1) ∣ m) (hi : i < m) (hl : Low t i) : i + 2 ^ t < m := by
  obtain ⟨q, rfl⟩ := hd
  unfold Low at hl
  rw [Nat.pow_succ] at hi ⊢
  have h1 := Nat.div_add_mod i (2 ^ t)
  have h2 := Nat.mod_lt i (Nat.two_pow_pos t)
  have h3 : i / 2 ^ t < 2 * q := Nat.div_lt_of_lt_mul (by rw [← Nat.mul_assoc]; exact hi)
  have h4 : 2 ^ t * (i / 2 ^ t + 1 + 1) ≤ 2 ^ t * (2 * q) := Nat.mul_le_mul_left _ (by omega)
  rw [Nat.mul_add, Nat.mul_add, Nat.mul_one, ← Nat.mul_assoc] at h4
  omega

/-- Each row's partner is the row's mate in the sequence. -/
theorem partner_apply {m t b : ℕ} (hm : m ≤ 2 ^ 31) (ht : t < 32) (h : 2 ^ t ≤ m) (hd : 2 ^ (t + 1) ∣ m)
    (hb : 2 ^ (t + 1) ∣ b) {j : Fin 128} {x : FVec Ideal (rows m) .f32} {X : ℕ → EReal} (hx : Holds b j x X) (i : Fin m) :
    partner t h x (ix2 i j) = X (mate t (b + i.val)) := by
  have hi := i.isLt
  have key : Low t i.val → i.val + 2 ^ t < m := fun hl => ahead_lt hd hi hl
  have key' : ¬ Low t i.val → 2 ^ t ≤ i.val := fun hl => by
    unfold Low at hl
    by_contra hc
    exact hl (by rw [Nat.div_eq_of_lt (by omega)])
  unfold partner
  rw [select_apply, clear_apply hm ht]
  by_cases hl : Low t i.val
  · rw [decide_eq_true hl]
    refine (turn_low (by omega) x i ⟨i.val + 2 ^ t, key hl⟩ j (by have := key hl; omega) (Nat.add_comm _ _)).trans ?_
    rw [hx, mate, if_pos ((low_add hb _).mpr hl), Nat.add_assoc]
  · rw [decide_eq_false hl]
    refine (turn_high (by omega) x i ⟨i.val - 2 ^ t, by omega⟩ j (by have := key' hl; simp only; omega)).trans ?_
    rw [hx, mate, if_neg (fun hc => hl ((low_add hb _).mp hc))]
    congr 1
    have := key' hl
    simp only
    omega

/-- The mask `f` says of the rows from `b` on which of them take the lesser. -/
def Says {m : ℕ} (b : ℕ) (j : Fin 128) (up : ℕ → Bool) (t : ℕ) (f : IVec (rows m) 1) : Prop :=
  ∀ i : Fin m, f (ix2 i j) = BitVec.ofBool (up (b + i.val) == decide (Low t (b + i.val)))

/-- A printed stage is the network's stage. -/
theorem exch_holds {m t b : ℕ} (hm : m ≤ 2 ^ 31) (ht : t < 32) (h : 2 ^ t ≤ m) (hd : 2 ^ (t + 1) ∣ m) (hb : 2 ^ (t + 1) ∣ b)
    {j : Fin 128} {x : FVec Ideal (rows m) .f32} {X : ℕ → EReal} {mask : ℕ → IVec (rows m) 1} {up : ℕ → Bool}
    (hs : Says b j up t (mask t)) (hx : Holds b j x X) : Holds b j (exch mask t h x) (stage t up X) := fun i => by
  unfold exch
  rw [select_apply, hs i]
  show Scalar.select _ (min (x (ix2 i j)) (partner t h x (ix2 i j))) (max (x (ix2 i j)) (partner t h x (ix2 i j))) = _
  rw [hx i, partner_apply hm ht h hd hb hx i, stage]
  by_cases hu : up (b + i.val) = decide (Low t (b + i.val))
  · rw [if_pos hu, beq_iff_eq.mpr hu]; rfl
  · rw [if_neg hu, beq_eq_false_iff_ne.mpr hu]; rfl

/-- A printed merge is the network's merge. -/
theorem merges_holds {m b : ℕ} (hm : m ≤ 2 ^ 31) {j : Fin 128} {mask : ℕ → IVec (rows m) 1} {up : ℕ → Bool} (n : ℕ)
    (hn : n ≤ 32) (h : 2 ^ n ≤ m) (hd : 2 ^ n ∣ m) (hb : 2 ^ n ∣ b) (hs : ∀ t < n, Says b j up t (mask t))
    {x : FVec Ideal (rows m) .f32} {X : ℕ → EReal} (hx : Holds b j x X) :
    Holds b j (merges mask n h x) (merge n up X) := by
  induction n generalizing x X with
  | zero => exact hx
  | succ n ih =>
    exact ih (by omega) _ ((pow_dvd_pow 2 (Nat.le_succ n)).trans hd) ((pow_dvd_pow 2 (Nat.le_succ n)).trans hb)
      (fun t ht => hs t (by omega)) (exch_holds hm (by omega) _ hd hb (hs n (by omega)) hx)

/-- The mask of an unturned network of bit `k`. -/
theorem lesser_says {m k t b : ℕ} (hm : m ≤ 2 ^ 31) (hk : k < 32) (ht : t < 32) (hb : 2 ^ (t + 1) ∣ b) (j : Fin 128)
    (up : ℕ → Bool) (hup : ∀ i < m, up (b + i) = decide (Low k i)) : Says b j up t (lesser m k t) := fun i => by
  show (clear m k (ix2 i j) ^^^ clear m t (ix2 i j)) ^^^ 1#1 = _
  rw [clear_apply hm hk, clear_apply hm ht, hup _ i.isLt, decide_eq_decide.mpr (low_add hb i.val)]
  cases decide (Low k i.val) <;> cases decide (Low t i.val) <;> rfl

/-- The mask of a network of bit `k` turned over by `flip`. -/
theorem lesserIf_says {m k t b : ℕ} (flip : Bool) (hm : m ≤ 2 ^ 31) (hk : k < 32) (ht : t < 32) (hb : 2 ^ (t + 1) ∣ b)
    (j : Fin 128) (up : ℕ → Bool) (hup : ∀ i < m, up (b + i) = (decide (Low k i) ^^ flip)) :
    Says b j up t (lesserIf m (BitVec.ofBool flip) k t) := fun i => by
  show ((clear m k (ix2 i j) ^^^ clear m t (ix2 i j)) ^^^ 1#1) ^^^ BitVec.ofBool flip = _
  rw [clear_apply hm hk, clear_apply hm ht, hup _ i.isLt, decide_eq_decide.mpr (low_add hb i.val)]
  cases decide (Low k i.val) <;> cases decide (Low t i.val) <;> cases flip <;> rfl

/-- The direction of level `n` of the local sorts, in the `c`-th block of 256. -/
theorem dirRun_block (n c i : ℕ) (hi : i < 256) : dirRun n (256 * c + i) = (decide (Low n i) ^^ decide (c % 2 = 1)) := by
  rw [show decide (Low n i) = decide (i / 2 ^ n % 2 = 0) from decide_eq_decide.mpr Iff.rfl]
  unfold dirRun
  rw [show (256 * c + i) % 256 = i by omega, show (256 * c + i) / 256 = c by omega]
  rcases Nat.mod_two_eq_zero_or_one c with h | h <;> rw [h] <;> cases decide (i / 2 ^ n % 2 = 0) <;> rfl

/-- The direction of the pairs' merges, in the `c`-th block of 512. -/
theorem dirHalf_block (c i : ℕ) (hi : i < 512) : dirHalf (512 * c + i) = (decide (Low 11 i) ^^ decide (c % 2 = 1)) := by
  rw [decide_eq_true (show Low 11 i from by unfold Low; rw [Nat.div_eq_of_lt (show i < 2 ^ 11 by omega)])]
  unfold dirHalf
  rw [show (512 * c + i) / 512 = c by omega]
  rcases Nat.mod_two_eq_zero_or_one c with h | h <;> rw [h] <;> rfl

/-- The local sort of the `c`-th block of 256 is the first eight levels of the network. -/
theorem sortRows_holds (c : ℕ) (flip : Bool) (hf : flip = decide (c % 2 = 1)) (j : Fin 128) (n : ℕ) (hn : n ≤ 8)
    {x : FVec Ideal (rows 256) .f32} {X : ℕ → EReal} (hx : Holds (256 * c) j x X) :
    Holds (256 * c) j (sortRows (BitVec.ofBool flip) n hn x) (Network.levels n dirRun X) := by
  induction n with
  | zero => exact hx
  | succ n ih =>
    have hd : 2 ^ (n + 1) ∣ 256 := pow_dvd_pow 2 (show n + 1 ≤ 8 from hn)
    refine merges_holds (by decide) (n + 1) (by omega) _ hd (hd.trans (Dvd.intro c rfl)) (fun t ht => ?_) (ih (by omega))
    refine lesserIf_says flip (by decide) (by omega) (by omega)
      ((pow_dvd_pow 2 (show t + 1 ≤ 8 by omega)).trans (Dvd.intro c rfl)) j _ fun i hi => ?_
    subst hf
    exact dirRun_block _ c i hi

/-- The merge of the `c`-th block of 512 is the network's second step. -/
theorem pair_holds (c : ℕ) (flip : Bool) (hf : flip = decide (c % 2 = 1)) (j : Fin 128)
    {x : FVec Ideal (rows 512) .f32} {X : ℕ → EReal} (hx : Holds (512 * c) j x X) :
    Holds (512 * c) j (merges (lesserIf 512 (BitVec.ofBool flip) 11) 9 (by decide) x) (merge 9 dirHalf X) := by
  refine merges_holds (by decide) 9 (by decide) _ (by decide) (Dvd.intro c rfl) (fun t ht => ?_) hx
  refine lesserIf_says flip (by decide) (by decide) (by omega)
    ((pow_dvd_pow 2 (show t + 1 ≤ 9 by omega)).trans (Dvd.intro c rfl)) j _ fun i hi => ?_
  subst hf
  exact dirHalf_block c i hi

/-- The last nine stages of the `c`-th block of 512 are those of a rising merge. -/
theorem last_holds (c : ℕ) (j : Fin 128) {x : FVec Ideal (rows 512) .f32} {X : ℕ → EReal} (hx : Holds (512 * c) j x X) :
    Holds (512 * c) j (merges (lesser 512 11) 9 (by decide) x) (merge 9 (fun _ => true) X) := by
  refine merges_holds (by decide) 9 (by decide) _ (by decide) (Dvd.intro c rfl) (fun t ht => ?_) hx
  refine lesser_says (by decide) (by decide) (by omega)
    ((pow_dvd_pow 2 (show t + 1 ≤ 9 by omega)).trans (Dvd.intro c rfl)) j _ fun i hi => ?_
  exact (decide_eq_true (show Low 11 i from by unfold Low; rw [Nat.div_eq_of_lt (show i < 2 ^ 11 by omega)])).symm

end Cert.Exchange
-- ==== Proof.RefSort.lean ====
/-
# The reference's sort

A column of the reference's result rises, and holds its argument's column's values as often as the argument does; so
it is the network's result on that column.
-/
module

public import proofs.«01_k».proof.Proof.Network
public import proofs.«01_k».proof.Proof.Gen.ReferenceIdeal.Run
public import Idealize.ShloMosaic.PureOps.Ideal
public import Idealize.ShloMosaic.Lib.SortFacts
public import Idealize.ShloMosaic.Lib.ValueIdxCore

@[expose] public section

noncomputable section

namespace Cert.RefSort

open Cert.ReferenceIdeal Cert.Network
open Idealize.ShloMosaic Idealize.ShloMosaic.ValueIdx

/-- The word of zeros is zero. -/
theorem zero_word : FloatOps.ofBits (F := Ideal) .f32 0x00000000#32 = (0 : EReal) := by
  simp [Ideal.ofBits, Ideal.ieee]

/-- The printed comparison puts zero in the place of zero and keeps everything else: no extended real is unequal to
    itself. -/
theorem clean_eq (l n : EReal) :
    Scalar.select (FloatOps.cmpf (F := Ideal) (φ := .f32) .une l l) n
      (Scalar.select (FloatOps.cmpf (F := Ideal) (φ := .f32) .oeq l (0 : EReal)) (0 : EReal) l) = l := by
  show Scalar.select (BitVec.ofBool (decide (l ≠ l))) n (Scalar.select (BitVec.ofBool (decide (l = 0))) 0 l) = l
  rw [decide_eq_false (not_not.mpr rfl)]
  show Scalar.select (BitVec.ofBool (decide (l = 0))) 0 l = l
  by_cases h : l = 0
  · rw [decide_eq_true h]; exact h.symm
  · rw [decide_eq_false h]; rfl

/-- The printed comparison is the order of the extended reals. -/
theorem comparator_eq (l r : EReal) : comparator_f32_d0 (F := Ideal) l r = BitVec.ofBool (decide (l < r)) := by
  unfold comparator_f32_d0
  simp only [zero_word, clean_eq]
  rfl

/-- Column `j` of the whole array, as a sequence. -/
def col (x : FVec Ideal S1024x128 .f32) (j : Fin 128) (i : ℕ) : EReal :=
  if h : i < 1024 then x (ix2 (n0 := 1024) (n1 := 128) ⟨i, h⟩ j) else 0

/-- Whether row `k` comes strictly before row `k'` in column `j`. -/
def before (x : FVec Ideal S1024x128 .f32) (j : Fin 128) (k k' : Fin 1024) : Bool :=
  decide (col x j k.val < col x j k'.val)

theorem col_apply (x : FVec Ideal S1024x128 .f32) (j : Fin 128) (i : Fin 1024) :
    col x j i.val = x (ix2 (n0 := 1024) (n1 := 128) i j) := dif_pos i.isLt

/-- The reference's column `j` is its argument's, in the order of its values. -/
theorem sort_apply (x : FVec Ideal S1024x128 .f32) (j : Fin 128) (i : Fin 1024) :
    col (Host.sort S1024x128 0 (comparator_f32_d0 (F := Ideal)) x) j i.val = col x j (sortedFrom (before x j) i).val := by
  have ha : ∀ k : Fin 1024, Shape.Idx.along (s := S1024x128) (ix2 (n0 := 1024) (n1 := 128) i j) (0 : Fin 2) k
      = ix2 (n0 := 1024) (n1 := 128) k j := fun k => by
    funext a
    match a with
    | ⟨0, _⟩ => rfl
    | ⟨1, _⟩ => rfl
  have hb : (fun k k' : Fin 1024 => comparator_f32_d0 (F := Ideal)
        (x (Shape.Idx.along (s := S1024x128) (ix2 (n0 := 1024) (n1 := 128) i j) (0 : Fin 2) k))
        (x (Shape.Idx.along (s := S1024x128) (ix2 (n0 := 1024) (n1 := 128) i j) (0 : Fin 2) k')) == 1#1) = before x j := by
    funext k k'
    rw [ha, ha, comparator_eq, before, col_apply, col_apply]
    cases decide (x (ix2 (n0 := 1024) (n1 := 128) k j) < x (ix2 (n0 := 1024) (n1 := 128) k' j)) <;> rfl
  rw [col_apply, col_apply]
  exact (congrArg (fun R : Fin 1024 → Fin 1024 → Bool =>
    x (Shape.Idx.along (s := S1024x128) (ix2 (n0 := 1024) (n1 := 128) i j) (0 : Fin 2) (sortedFrom R i))) hb).trans
      (congrArg x (ha _))

/-- The reference's column never decreases. -/
theorem sort_mono (x : FVec Ideal S1024x128 .f32) (j : Fin 128) (i k : ℕ) (hik : i ≤ k) (hk : k < 1024) :
    col (Host.sort S1024x128 0 (comparator_f32_d0 (F := Ideal)) x) j i
      ≤ col (Host.sort S1024x128 0 (comparator_f32_d0 (F := Ideal)) x) j k := by
  rcases Nat.eq_or_lt_of_le hik with rfl | h
  · exact le_refl _
  rw [sort_apply x j ⟨i, by omega⟩, sort_apply x j ⟨k, hk⟩]
  have hn := sortedFrom_noInversion (before x j) (before x j)
    (fun a b hab => decide_eq_false (not_lt.mpr (le_of_lt (of_decide_eq_true hab))))
    (fun _ _ h => h)
    (fun a b c hab hbc => decide_eq_false (not_lt.mpr
      (le_trans (not_lt.mp (of_decide_eq_false hbc)) (not_lt.mp (of_decide_eq_false hab)))))
    ⟨i, by omega⟩ ⟨k, hk⟩ h
  exact not_lt.mp (of_decide_eq_false hn)

/-- It holds as many values above a threshold as the argument's column. -/
theorem sort_count (x : FVec Ideal S1024x128 .f32) (j : Fin 128) (a : EReal) :
    Network.count (fun i => a < col (Host.sort S1024x128 0 (comparator_f32_d0 (F := Ideal)) x) j i) 0 1024
      = Network.count (fun i => a < col x j i) 0 1024 := by
  classical
  unfold Network.count
  rw [Finset.sum_range, Finset.sum_range]
  refine Fintype.sum_bijective (sortedFrom (before x j)) ⟨sortedFrom_injective _, sortedFrom_surjective _⟩ _ _ fun i => ?_
  simp only [Nat.zero_add]
  rw [sort_apply]

/-- The reference's column is the network's result on its argument's. -/
theorem sort_eq_network (x : FVec Ideal S1024x128 .f32) (j : Fin 128) (i : ℕ) (hi : i < 1024) :
    network (col x j) i = col (Host.sort S1024x128 0 (comparator_f32_d0 (F := Ideal)) x) j i :=
  rise_unique (network_rise _) (fun a => rise_of_mono (sort_mono x j) a)
    (fun a => (network_count _ a).trans (sort_count x j a).symm) i hi

end Cert.RefSort
-- ==== Proof.Value.lean ====
/-
# What every device's result is

Over the extended reals, when the devices hold the four blocks of one array, lane `j` of device `c`'s result is rows
`256 c` to `256 c + 255` of the network's result on column `j` of that array.
-/
module

public import proofs.«01_k».proof.Proof.Launch
public import proofs.«01_k».proof.Proof.Columns
public import proofs.«01_k».proof.Proof.RefSort
public import Idealize.ShloMosaic.Lib.Layout
public import Idealize.ShloMosaic.Lib.Pipeline.ValueKit.Geometry

@[expose] public section

noncomputable section

namespace Cert.Exchange

open Cert.KernelIdeal Cert.KernelIdeal.Gen Cert.Network
open Idealize.ShloMosaic Idealize.ShloMosaic.ValueIdx
open Idealize.ShloMosaic.TcCoe

theorem odd_eq (c : Dev nD) : odd c = BitVec.ofBool (decide (c.val % 2 = 1)) := by revert c; decide +kernel

theorem upper_eq (c : Dev nD) : upper c = BitVec.ofBool (decide (c.val / 2 % 2 = 1)) := by revert c; decide +kernel

theorem lower_eq (c : Dev nD) : Scalar.cmpi .slt (me c) 2#32 = BitVec.ofBool (decide (c.val / 2 = 0)) := by
  revert c; decide +kernel

/-- The slots of a pair's buffer hold the pair's blocks in the order of the array. -/
theorem filler_val (c : Dev nD) (b : Fin 2) : (filler c b.val).val = 2 * (c.val / 2) + b.val := by
  revert c b; decide

theorem over_half (c : Dev nD) : (over c).val / 2 = 1 - c.val / 2 := by revert c; decide

/-- A vector read at its own shape is itself. -/
theorem holds_cast {m b : ℕ} {j : Fin 128} {v : FVec Ideal (rows m) .f32} {X : ℕ → EReal} (h : (rows m).ShapeCasts (rows m))
    (hv : Holds b j v X) : Holds b j (shapeCast (rows m) v h) X := fun i =>
  (shapeCast_apply v h (ix2 i j) (ix2 i j) rfl).trans (hv i)

/-- The staged block is the argument's. -/
theorem xstg_eq {F : FTy → Type} [FloatOps F] (m : (ℓ : Loc nD τ sig) → Buf (Elt F) ℓ) (ρ : Dev nD → PrngReg) (c : Dev nD) :
    xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array after the run is the computed block. -/
theorem finalA_out {F : FTy → Type} [FloatOps F] (m : (ℓ : Loc nD τ sig) → Buf (Elt F) ℓ) (ρ : Dev nD → PrngReg) (c : Dev nD) :
    finalA m ρ c (1 : Fin 2) = outAt m ρ c :=
  (dats m ρ 0 c).arrAt_eq_of_after_last (1 : Fin 2) (0 : Fin 1)
    ⟨by decide, fun t _ => Subsingleton.elim (α := Fin 1) _ _, fun a => by fin_cases a <;> exact ⟨by decide, by decide⟩⟩ _ fun j => by rfl

/-- The four blocks of `G` on the devices. -/
def Parts (m : (ℓ : Loc nD τ sig) → Buf (Elt Ideal) ℓ) (G : FVec Ideal Cert.ReferenceIdeal.S1024x128 .f32) : Prop :=
  ∀ c : Dev nD, m ((c : Thread nD τ).loc main_arg0) = Layout.block ⟨2, ![256, 128]⟩ ⟨2, ![1024, 128]⟩ 0 4 c G

variable {m : (ℓ : Loc nD τ sig) → Buf (Elt Ideal) ℓ} (ρ : Dev nD → PrngReg) {G : FVec Ideal Cert.ReferenceIdeal.S1024x128 .f32} (hG : Parts m G) (j : Fin 128)
include hG

/-- A device's block is its rows of the column. -/
theorem xstg_holds (c : Dev nD) : Holds (m := 256) (256 * c.val) j (xstg m ρ c) (RefSort.col G j) := fun i => by
  rw [xstg_eq, hG c, Layout.block_apply]
  have h : 256 * c.val + i.val < 1024 := by have h4 : c.val < 4 := c.isLt; have := i.isLt; omega
  rw [RefSort.col, dif_pos h]
  refine congrArg G (funext fun a => Fin.ext ?_)
  rw [Layout.Tiles.idx_val]
  match a with
  | ⟨0, _⟩ => show c.val * 256 + i.val = 256 * c.val + i.val; omega
  | ⟨1, _⟩ => rfl

/-- Its sorted block is its rows of the sorted runs. -/
theorem sorted_apply (c : Dev nD) (i : Fin 256) :
    sorted m ρ c (ix3 (n0 := 1) 0 i j) = Network.levels 8 dirRun (RefSort.col G j) (256 * c.val + i.val) := by
  unfold sorted
  rw [sortPay_eq, odd_eq]
  refine (shapeCast_apply _ _ (ix3 (n0 := 1) 0 i j) (ix2 i j) ?_).trans ?_
  · rw [Shape.rowMajor_val_two, Shape.rowMajor_val_three]
    show i.val * 128 + j.val = (0 * 256 + i.val) * 128 + j.val
    omega
  · exact sortRows_holds c.val _ rfl j 8 (by decide) (holds_cast _ (xstg_holds ρ hG j c)) i

/-- The pair's buffer is the pair's rows of the sorted runs. -/
theorem pair_apply (c : Dev nD) : Holds (m := 512) (512 * (c.val / 2)) j
    (shapeCast S512x128 (pairC m ρ c) shapeCasts_S2x256x128_S512x128) (Network.levels 8 dirRun (RefSort.col G j)) := fun i => by
  have hi := i.isLt
  refine (shapeCast_apply _ _ (ix2 i j) (ix3 (n0 := 2) (n1 := 256) ⟨i.val / 256, by omega⟩ ⟨i.val % 256, by omega⟩ j) ?_).trans ?_
  · rw [Shape.rowMajor_val_two, Shape.rowMajor_val_three]
    show (i.val / 256 * 256 + i.val % 256) * 128 + j.val = i.val * 128 + j.val
    omega
  · show sorted m ρ (filler c (i.val / 256)) (ix3 (n0 := 1) 0 ⟨i.val % 256, _⟩ j) = _
    rw [sorted_apply ρ hG j, filler_val c ⟨i.val / 256, by omega⟩]
    congr 1
    simp only
    omega

/-- A device's merged block is its pair's rows of the two merged halves. -/
theorem merged_holds (c : Dev nD) : Holds (m := 512) (512 * (c.val / 2)) j (merged m ρ c)
    (merge 9 dirHalf (Network.levels 8 dirRun (RefSort.col G j))) := by
  unfold merged
  rw [mergePay_eq, upper_eq]
  exact holds_cast _ (pair_holds _ _ rfl j (pair_apply ρ hG j c))

/-- The comparison with the other pair's block is the stage at distance 512. -/
theorem halves_holds (c : Dev nD) : Holds (m := 512) (512 * (c.val / 2)) j (halves c (merged m ρ c) (merged m ρ (over c)))
    (stage 9 (fun _ => true) (merge 9 dirHalf (Network.levels 8 dirRun (RefSort.col G j)))) := fun i => by
  have hi := i.isLt
  have h1 := merged_holds ρ hG j c i
  have h2 := merged_holds ρ hG j (over c) i
  rw [over_half] at h2
  unfold halves
  rw [lower_eq]
  have hc : c.val / 2 = 0 ∨ c.val / 2 = 1 := by have h4 : c.val < 4 := c.isLt; omega
  rcases hc with h | h
  · rw [h] at h1 h2 ⊢
    show min (α := EReal) (merged m ρ c (ix2 i j)) (merged m ρ (over c) (ix2 i j)) = _
    rw [h1, h2]
    have hl : Low 9 (512 * 0 + i.val) := by unfold Low; omega
    rw [stage, if_pos (decide_eq_true hl).symm, mate, if_pos hl]
    rw [show 512 * 0 + i.val + 2 ^ 9 = 512 * (1 - 0) + i.val by omega]
  · rw [h] at h1 h2 ⊢
    show max (α := EReal) (merged m ρ c (ix2 i j)) (merged m ρ (over c) (ix2 i j)) = _
    rw [h1, h2]
    have hl : ¬ Low 9 (512 * 1 + i.val) := by unfold Low; omega
    rw [stage, if_neg (by rw [decide_eq_false hl]; decide), mate, if_neg hl]
    rw [show 512 * 1 + i.val - 2 ^ 9 = 512 * (1 - 1) + i.val by omega]

/-- A device's last block is its half of the network's result. -/
theorem final_holds (c : Dev nD) : Holds (m := 512) (512 * (c.val / 2)) j (final m ρ c) (network (RefSort.col G j)) := by
  unfold final
  rw [finalPay_eq]
  exact holds_cast _ (last_holds _ j (halves_holds ρ hG j c))

/-- A device's result is its rows of the network's result. -/
theorem out_holds (c : Dev nD) : Holds (m := 256) (256 * c.val) j (outAt m ρ c) (network (RefSort.col G j)) := fun i => by
  have hi := i.isLt
  have hb : bit c * 256 + i.val < 512 := by have := bit_lt c; omega
  refine Eq.trans ?_ ((final_holds ρ hG j c ⟨bit c * 256 + i.val, hb⟩).trans ?_)
  · refine congrArg (final m ρ c) (funext fun a => Fin.ext ?_)
    match a with
    | ⟨0, _⟩ =>
      show k0_off3 c 0 + 1 * i.val = bit c * 256 + i.val
      rw [off3_eq]
      show bit c * 256 + 1 * i.val = _
      omega
    | ⟨1, _⟩ =>
      show k0_off3 c 1 + 1 * j.val = j.val
      rw [off3_eq]
      show 0 + 1 * j.val = _
      omega
  · congr 1
    unfold bit
    simp only
    omega

omit hG in
/-- Device `c`'s result is block `c` of the reference's. -/
theorem out_eq_block (hG : Parts m G) (c : Dev nD) :
    finalA m ρ c (1 : Fin 2) = Layout.block ⟨2, ![256, 128]⟩ ⟨2, ![1024, 128]⟩ 0 4 c
      (Host.sort Cert.ReferenceIdeal.S1024x128 0 (Cert.ReferenceIdeal.comparator_f32_d0 (F := Ideal)) G) := by
  rw [finalA_out]
  funext y
  have h0 : (y 0).val < 256 := (y 0).isLt
  have h : 256 * c.val + (y 0).val < 1024 := by have h4 : c.val < 4 := c.isLt; omega
  refine (congrArg (outAt m ρ c) (eq_ix2 (n0 := 256) (n1 := 128) y)).trans ((out_holds ρ hG (y 1) c (y 0)).trans ?_)
  refine (RefSort.sort_eq_network G (y 1) _ h).trans ((dif_pos h).trans ?_)
  rw [Layout.block_apply]
  refine congrArg (Host.sort Cert.ReferenceIdeal.S1024x128 0 (Cert.ReferenceIdeal.comparator_f32_d0 (F := Ideal)) G)
    (funext fun a => Fin.ext ?_)
  rw [Layout.Tiles.idx_val]
  match a with
  | ⟨0, _⟩ => show 256 * c.val + (y 0).val = c.val * 256 + (y 0).val; omega
  | ⟨1, _⟩ => rfl

end Cert.Exchange

end
-- ==== Proof.lean ====
/-
# The claims

The kernel's run is proved once, over any float values (`Cert.Exchange.run_main`). The two kernel frames are
that run at the bits and at the extended reals, the reference's frame is its generated run. The value claim reads
the run's result array, block by block, as the reference's sort (`Cert.Exchange.out_eq_block`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

set_option smartUnfolding false in
/-- The kernel ends from any memory, its argument unchanged and every counter at zero. -/
theorem frame_kernel : Cert.quiescent_Kernel (hKernel := Cert.Kernel.Gen.facts) := fun m ρ _ => by
  have H := (θ_run Cert.KernelIdeal.defs _ _).mono
    (Q' := fun r : PUnit × MemSt Cert.KernelIdeal.nD Cert.KernelIdeal.τ Cert.KernelIdeal.sig (Elt Bits) =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0)
    (fun _ h => ⟨fun c => (h.1 c (0 : Fin 2)).trans (Cert.Exchange.finalA_in (F := Bits) m ρ c), h.2⟩) (Cert.Exchange.run_main (F := Bits) m ρ)
  exact H

/-- So does the kernel at the extended reals. -/
theorem frame_ideal : Cert.quiescent_KernelIdeal (hKernelIdeal := Cert.KernelIdeal.Gen.facts) := fun m ρ _ =>
  (θ_run Cert.KernelIdeal.defs _ _).mono
    (fun _ h => ⟨fun c => (h.1 c (0 : Fin 2)).trans (Cert.Exchange.finalA_in (F := Ideal) m ρ c), h.2⟩) (Cert.Exchange.run_main (F := Ideal) m ρ)

/-- So does the reference, whose semaphores nothing touches. -/
theorem frame_reference : Cert.quiescent_ReferenceIdeal (hReferenceIdeal := Cert.ReferenceIdeal.Gen.facts) := fun m ρ _ =>
  (θ_run Cert.ReferenceIdeal.defs _ _).mono
    (fun _ h => ⟨fun c => (h c).2, sem_eq_zero_of_no_sems (by decide) _⟩) (Cert.ReferenceIdeal.Value.run (F := Ideal) m ρ)

/-- Over the extended reals, when the four devices hold the four blocks of the reference's argument, they end with the
    four blocks of the reference's result, its argument sorted along its first axis. -/
theorem value_ideal : Cert.algebraic_KernelIdeal_ReferenceIdeal (hKernelIdeal := Cert.KernelIdeal.Gen.facts)
    (hReferenceIdeal := Cert.ReferenceIdeal.Gen.facts) := fun m g m' g' _ hm => by
  refine ⟨Host.sort Cert.ReferenceIdeal.S1024x128 0 (Cert.ReferenceIdeal.comparator_f32_d0 (F := Ideal))
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c (1 : Fin 2)).trans (Cert.Exchange.out_eq_block g hm c),
        (h.1 c (0 : Fin 2)).trans (Cert.Exchange.finalA_in (F := Ideal) m g c)⟩)
      (Cert.Exchange.run_main (F := Ideal) m g)
  · exact (θ_run Cert.ReferenceIdeal.defs _ _).mono (fun _ h => h 0) (Cert.ReferenceIdeal.Value.run (F := Ideal) m' g')

/-- Every claim of the certificate. -/
theorem claim : Cert.Claim := ⟨Cert.Kernel.Gen.facts, Cert.KernelIdeal.Gen.facts, Cert.ReferenceIdeal.Gen.facts,
  frame_kernel, frame_ideal, frame_reference, trivial, value_ideal⟩

end Cert.Proof

end
